-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)) (v4 : (c : Dev Cert.Kernel5Ideal.nD) → Buf (Elt Ideal) ((c.tc : Thread Cert.Kernel5Ideal.nD Cert.Kernel5Ideal.τ).loc Cert.Kernel5Ideal.main_v2_4)) (v5 : (c : Dev Cert.Kernel5Ideal.nD) → Buf (Elt Ideal) ((c.tc : Thread Cert.Kernel5Ideal.nD Cert.Kernel5Ideal.τ).loc Cert.Kernel5Ideal.main_v2_5)) (v6 : (c : Dev Cert.Kernel5Ideal.nD) → Buf (Elt Ideal) ((c.tc : Thread Cert.Kernel5Ideal.nD Cert.Kernel5Ideal.τ).loc Cert.Kernel5Ideal.main_v2_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_v2_4) = v4 c
          ∧ r.2.mem ((c.tc : Thread Cert.Kernel5Ideal.nD Cert.Kernel5Ideal.τ).loc Cert.Kernel5Ideal.main_v2_5) = v5 c
          ∧ r.2.mem ((c.tc : Thread Cert.Kernel5Ideal.nD Cert.Kernel5Ideal.τ).loc Cert.Kernel5Ideal.main_v2_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_v30) = v3 c
          ∧ r.2.mem ((c.tc : Thread Cert.Reference5Ideal.nD Cert.Reference5Ideal.τ).loc Cert.Reference5Ideal.main_v31) = v4 c
          ∧ r.2.mem ((c.tc : Thread Cert.Reference5Ideal.nD Cert.Reference5Ideal.τ).loc Cert.Reference5Ideal.main_v32) = v5 c
          ∧ r.2.mem ((c.tc : Thread Cert.Reference5Ideal.nD Cert.Reference5Ideal.τ).loc Cert.Reference5Ideal.main_v33) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8x2048x1024 : Shape := ⟨3, ![8, 2048, 1024]⟩
abbrev S8x2048x1536 : Shape := ⟨3, ![8, 2048, 1536]⟩
abbrev S8x2048x24 : Shape := ⟨3, ![8, 2048, 24]⟩
abbrev S8x2048x16 : Shape := ⟨3, ![8, 2048, 16]⟩
abbrev S4x4x1536 : Shape := ⟨3, ![4, 4, 1536]⟩
abbrev S4x1536 : Shape := ⟨2, ![4, 1536]⟩
abbrev S4x16 : Shape := ⟨2, ![4, 16]⟩
abbrev S4x1024 : Shape := ⟨2, ![4, 1024]⟩
abbrev S16384x24 : Shape := ⟨2, ![16384, 24]⟩
abbrev S16384x16 : Shape := ⟨2, ![16384, 16]⟩
abbrev S_ : Shape := ⟨0, ![]⟩
abbrev S16384x88 : Shape := ⟨2, ![16384, 88]⟩
abbrev S16384x128 : Shape := ⟨2, ![16384, 128]⟩
abbrev S4x1x1536 : Shape := ⟨3, ![4, 1, 1536]⟩
abbrev S4x1x128 : Shape := ⟨3, ![4, 1, 128]⟩
abbrev S1 : Shape := ⟨1, ![1]⟩
abbrev S2 : Shape := ⟨1, ![2]⟩
abbrev S4x16x64 : Shape := ⟨3, ![4, 16, 64]⟩
abbrev S4x1x1024 : Shape := ⟨3, ![4, 1, 1024]⟩
abbrev S16384x1536 : Shape := ⟨2, ![16384, 1536]⟩
abbrev S16384x1024 : Shape := ⟨2, ![16384, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1024 : Shape := ⟨1, ![1024]⟩
abbrev S1x1024 : Shape := ⟨2, ![1, 1024]⟩
abbrev S128x1024 : Shape := ⟨2, ![128, 1024]⟩
abbrev S1024x1536 : Shape := ⟨2, ![1024, 1536]⟩
abbrev S1024x1024 : Shape := ⟨2, ![1024, 1024]⟩
abbrev S1024x128 : Shape := ⟨2, ![1024, 128]⟩
abbrev S1x4x1536 : Shape := ⟨3, ![1, 4, 1536]⟩
abbrev S1x1x1536 : Shape := ⟨3, ![1, 1, 1536]⟩
abbrev S1x1x128 : Shape := ⟨3, ![1, 1, 128]⟩
abbrev S1x1x1024 : Shape := ⟨3, ![1, 1, 1024]⟩
abbrev S8x1536 : Shape := ⟨2, ![8, 1536]⟩
abbrev S128x1536 : Shape := ⟨2, ![128, 1536]⟩
abbrev S16x8x1536 : Shape := ⟨3, ![16, 8, 1536]⟩
abbrev S1x8x1 : Shape := ⟨3, ![1, 8, 1]⟩
abbrev S1x1536 : Shape := ⟨2, ![1, 1536]⟩
abbrev S1x8x1536 : Shape := ⟨3, ![1, 8, 1536]⟩
abbrev S15x8x1536 : Shape := ⟨3, ![15, 8, 1536]⟩
abbrev S128x256 : Shape := ⟨2, ![128, 256]⟩
abbrev S128x512 : Shape := ⟨2, ![128, 512]⟩
abbrev S256x128 : Shape := ⟨2, ![256, 128]⟩
abbrev S1x512 : Shape := ⟨2, ![1, 512]⟩
abbrev S1x1x512 : Shape := ⟨3, ![1, 1, 512]⟩

abbrev nBuf : Space → Nat
  | .hbm => 78
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1536, .f32⟩
  | .hbm, ⟨2, _⟩ => ⟨S8x2048x24, .f32⟩
  | .hbm, ⟨3, _⟩ => ⟨S8x2048x16, .f32⟩
  | .hbm, ⟨4, _⟩ => ⟨S4x4x1536, .f32⟩
  | .hbm, ⟨5, _⟩ => ⟨S4x1536, .f32⟩
  | .hbm, ⟨6, _⟩ => ⟨S4x16, .f32⟩
  | .hbm, ⟨7, _⟩ => ⟨S4x16, .f32⟩
  | .hbm, ⟨8, _⟩ => ⟨S4x16, .f32⟩
  | .hbm, ⟨9, _⟩ => ⟨S4x1024, .f32⟩
  | .hbm, ⟨10, _⟩ => ⟨S16384x24, .f32⟩
  | .hbm, ⟨11, _⟩ => ⟨S16384x16, .f32⟩
  | .hbm, ⟨12, _⟩ => ⟨S_, .f32⟩
  | .hbm, ⟨13, _⟩ => ⟨S16384x88, .f32⟩
  | .hbm, ⟨14, _⟩ => ⟨S16384x128, .f32⟩
  | .hbm, ⟨15, _⟩ => ⟨S4x1x1536, .f32⟩
  | .hbm, ⟨16, _⟩ => ⟨S_, .f32⟩
  | .hbm, ⟨17, _⟩ => ⟨S4x1x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S4x1x128, .f32⟩
  | .hbm, ⟨24, _⟩ => ⟨S_, .f32⟩
  | .hbm, ⟨25, _⟩ => ⟨S4x1x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S4x1x128, .f32⟩
  | .hbm, ⟨32, _⟩ => ⟨S4x16x64, .f32⟩
  | .hbm, ⟨33, _⟩ => ⟨S4x1024, .f32⟩
  | .hbm, ⟨34, _⟩ => ⟨S4x1x1024, .f32⟩
  | .hbm, ⟨35, _⟩ => ⟨S4x1x1024, .f32⟩
  | .hbm, ⟨36, _⟩ => ⟨S16384x1536, .f32⟩
  | .hbm, ⟨37, _⟩ => ⟨S16384x1024, .f32⟩
  | .hbm, ⟨38, _⟩ => ⟨S128, .i32⟩
  | .hbm, ⟨39, _⟩ => ⟨S128, .i32⟩
  | .hbm, ⟨40, _⟩ => ⟨S128x1, .i32⟩
  | .hbm, ⟨41, _⟩ => ⟨S128, .i32⟩
  | .hbm, ⟨42, _⟩ => ⟨S1x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S1024, .i32⟩
  | .hbm, ⟨47, _⟩ => ⟨S_, .i32⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S_, .i32⟩
  | .hbm, ⟨53, _⟩ => ⟨S1024, .i32⟩
  | .hbm, ⟨54, _⟩ => ⟨S1024, .i1⟩
  | .hbm, ⟨55, _⟩ => ⟨S1024, .i32⟩
  | .hbm, ⟨56, _⟩ => ⟨S1024, .i32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S128x1, .i32⟩
  | .hbm, ⟨66, _⟩ => ⟨S_, .i32⟩
  | .hbm, ⟨67, _⟩ => ⟨S128x1, .i32⟩
  | .hbm, ⟨68, _⟩ => ⟨S128x1, .i32⟩
  | .hbm, ⟨69, _⟩ => ⟨S1x1024, .i32⟩
  | .hbm, ⟨70, _⟩ => ⟨S128x1024, .i32⟩
  | .hbm, ⟨71, _⟩ => ⟨S128x1024, .i32⟩
  | .hbm, ⟨72, _⟩ => ⟨S128x1024, .i1⟩
  | .hbm, ⟨73, _⟩ => ⟨S128x128, .f32⟩
  | .hbm, ⟨74, _⟩ => ⟨S128x128, .bf16⟩
  | .hbm, ⟨75, _⟩ => ⟨S128x1024, .f32⟩
  | .hbm, ⟨76, _⟩ => ⟨S128x1024, .bf16⟩
  | .hbm, ⟨77, _⟩ => ⟨S16384x1024, .bf16⟩
  | .local _ .vmem, ⟨0, _⟩ => ⟨S1024x1536, .f32⟩
  | .local _ .vmem, ⟨1, _⟩ => ⟨S1024x1536, .f32⟩
  | .local _ .vmem, ⟨2, _⟩ => ⟨S1024x1024, .f32⟩
  | .local _ .vmem, ⟨3, _⟩ => ⟨S1024x1024, .f32⟩
  | .local _ .vmem, ⟨4, _⟩ => ⟨S1024x128, .f32⟩
  | .local _ .vmem, ⟨5, _⟩ => ⟨S1024x128, .f32⟩
  | .local _ .vmem, ⟨6, _⟩ => ⟨S1x4x1536, .f32⟩
  | .local _ .vmem, ⟨7, _⟩ => ⟨S1x1x1536, .f32⟩
  | .local _ .vmem, ⟨8, _⟩ => ⟨S1x1x128, .f32⟩
  | .local _ .vmem, ⟨9, _⟩ => ⟨S1x1x128, .f32⟩
  | .local _ .vmem, ⟨10, _⟩ => ⟨S1x1x1024, .f32⟩
  | .local _ .vmem, ⟨11, _⟩ => ⟨S1x1x1024, .f32⟩
  | .local _ .vmem, ⟨12, _⟩ => ⟨S128x128, .bf16⟩
  | .local _ .vmem, ⟨13, _⟩ => ⟨S128x1024, .bf16⟩
  | .local _ .vmem, ⟨14, _⟩ => ⟨S1024x1024, .bf16⟩
  | .local _ .vmem, ⟨15, _⟩ => ⟨S1024x1024, .bf16⟩
  | .local _ .vmem, ⟨16, _⟩ => ⟨S8x1536, .f32⟩
  | .local _ .vmem, ⟨17, _⟩ => ⟨S128x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v30 : Ref sig .tc := ⟨.hbm, 64, rfl⟩
abbrev main_v31 : Ref sig .tc := ⟨.hbm, 65, rfl⟩
abbrev main_c_6 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x2048x1024 : Shape := ⟨3, ![8, 2048, 1024]⟩
abbrev S8x2048x1536 : Shape := ⟨3, ![8, 2048, 1536]⟩
abbrev S8x2048x24 : Shape := ⟨3, ![8, 2048, 24]⟩
abbrev S8x2048x16 : Shape := ⟨3, ![8, 2048, 16]⟩
abbrev S4x4x1536 : Shape := ⟨3, ![4, 4, 1536]⟩
abbrev S4x1536 : Shape := ⟨2, ![4, 1536]⟩
abbrev S4x16 : Shape := ⟨2, ![4, 16]⟩
abbrev S4x1024 : Shape := ⟨2, ![4, 1024]⟩
abbrev S1x4x1536 : Shape := ⟨3, ![1, 4, 1536]⟩
abbrev S1x1536 : Shape := ⟨2, ![1, 1536]⟩
abbrev S1536 : Shape := ⟨1, ![1536]⟩
abbrev S1x16 : Shape := ⟨2, ![1, 16]⟩
abbrev S16 : Shape := ⟨1, ![16]⟩
abbrev S1x1024 : Shape := ⟨2, ![1, 1024]⟩
abbrev S1024 : Shape := ⟨1, ![1024]⟩
abbrev S_ : Shape := ⟨0, ![]⟩
abbrev S8x2051x1536 : Shape := ⟨3, ![8, 2051, 1536]⟩
abbrev S1x1x1536 : Shape := ⟨3, ![1, 1, 1536]⟩
abbrev S8x2048x256 : Shape := ⟨3, ![8, 2048, 256]⟩
abbrev S1x1x16 : Shape := ⟨3, ![1, 1, 16]⟩
abbrev S8x2048x16x64 : Shape := ⟨4, ![8, 2048, 16, 64]⟩
abbrev S8x2048x2x128 : Shape := ⟨4, ![8, 2048, 2, 128]⟩
abbrev S8x16x128x2x8x64 : Shape := ⟨6, ![8, 16, 128, 2, 8, 64]⟩
abbrev S8x2048x16x1 : Shape := ⟨4, ![8, 2048, 16, 1]⟩
abbrev S8x16x128x2x128 : Shape := ⟨5, ![8, 16, 128, 2, 128]⟩
abbrev S8x16x128x2x8 : Shape := ⟨5, ![8, 16, 128, 2, 8]⟩
abbrev S8x2x8x16x128 : Shape := ⟨5, ![8, 2, 8, 16, 128]⟩
abbrev S128x128 : Shape := ⟨2, ![128, 128]⟩
abbrev S8x2x8x16x128x1 : Shape := ⟨6, ![8, 2, 8, 16, 128, 1]⟩
abbrev S8x2x8x16x1x128 : Shape := ⟨6, ![8, 2, 8, 16, 1, 128]⟩
abbrev S8x2x8x16x128x128 : Shape := ⟨6, ![8, 2, 8, 16, 128, 128]⟩
abbrev S8x2x16x128x128 : Shape := ⟨5, ![8, 2, 16, 128, 128]⟩
abbrev S8x2x1x16x128x128 : Shape := ⟨6, ![8, 2, 1, 16, 128, 128]⟩
abbrev S8x16x2x8x64x128 : Shape := ⟨6, ![8, 16, 2, 8, 64, 128]⟩
abbrev S8x2x8x16x1 : Shape := ⟨5, ![8, 2, 8, 16, 1]⟩
abbrev S8x16x128x2x8x1 : Shape := ⟨6, ![8, 16, 128, 2, 8, 1]⟩
abbrev S8x2x8x16 : Shape := ⟨4, ![8, 2, 8, 16]⟩
abbrev S8x1x2x8x64x128 : Shape := ⟨6, ![8, 1, 2, 8, 64, 128]⟩
abbrev S8x2x8x64x128 : Shape := ⟨5, ![8, 2, 8, 64, 128]⟩
abbrev S16x8x2x8x64x128 : Shape := ⟨6, ![16, 8, 2, 8, 64, 128]⟩
abbrev S16x8x2x8 : Shape := ⟨4, ![16, 8, 2, 8]⟩
abbrev S1x8x2x8x64x128 : Shape := ⟨6, ![1, 8, 2, 8, 64, 128]⟩
abbrev S1x8x2x8 : Shape := ⟨4, ![1, 8, 2, 8]⟩
abbrev S8x2x8 : Shape := ⟨3, ![8, 2, 8]⟩
abbrev S8x2x8x1x1 : Shape := ⟨5, ![8, 2, 8, 1, 1]⟩
abbrev S2x8x1 : Shape := ⟨3, ![2, 8, 1]⟩
abbrev S1x1x1x2x8x1 : Shape := ⟨6, ![1, 1, 1, 2, 8, 1]⟩
abbrev S8x2048x2x512 : Shape := ⟨4, ![8, 2048, 2, 512]⟩
abbrev S2x512 : Shape := ⟨2, ![2, 512]⟩
abbrev S8x2048x2 : Shape := ⟨3, ![8, 2048, 2]⟩
abbrev S8x2048x2x1 : Shape := ⟨4, ![8, 2048, 2, 1]⟩
abbrev S1x1x2x512 : Shape := ⟨4, ![1, 1, 2, 512]⟩
abbrev S16384x1024 : Shape := ⟨2, ![16384, 1024]⟩

abbrev nBuf : Space → Nat
  | .hbm => 234
  | .vmem => 0
  | .smem => 0
  | _ => 0

abbrev hbmTy0_0 (i : Nat) : BufTy := match i % 128 with
  | 0 => ⟨S8x2048x1024, .f32⟩
  | 1 => ⟨S8x2048x1536, .f32⟩
  | 2 => ⟨S8x2048x24, .f32⟩
  | 3 => ⟨S8x2048x16, .f32⟩
  | 4 => ⟨S4x4x1536, .f32⟩
  | 5 => ⟨S4x1536, .f32⟩
  | 6 => ⟨S4x16, .f32⟩
  | 7 => ⟨S4x16, .f32⟩
  | 8 => ⟨S4x16, .f32⟩
  | 9 => ⟨S4x1024, .f32⟩
  | 10 => ⟨S1x4x1536, .f32⟩
  | 11 => ⟨S4x1536, .f32⟩
  | 12 => ⟨S1x1536, .f32⟩
  | 13 => ⟨S1536, .f32⟩
  | 14 => ⟨S1x16, .f32⟩
  | 15 => ⟨S16, .f32⟩
  | 16 => ⟨S1x16, .f32⟩
  | 17 => ⟨S16, .f32⟩
  | 18 => ⟨S1x16, .f32⟩
  | 19 => ⟨S16, .f32⟩
  | 20 => ⟨S1x1024, .f32⟩
  | 21 => ⟨S1024, .f32⟩
  | 22 => ⟨S_, .i32⟩
  | 23 => ⟨S_, .f32⟩
  | 24 => ⟨S8x2051x1536, .f32⟩
  | 25 => ⟨S8x2048x1536, .f32⟩
  | 26 => ⟨S1x1536, .f32⟩
  | 27 => ⟨S1536, .f32⟩
  | 28 => ⟨S1x1x1536, .f32⟩
  | 29 => ⟨S8x2048x1536, .f32⟩
  | 30 => ⟨S8x2048x1536, .f32⟩
  | 31 => ⟨S_, .f32⟩
  | 32 => ⟨S8x2048x1536, .f32⟩
  | 33 => ⟨S8x2048x1536, .f32⟩
  | 34 => ⟨S8x2048x1536, .f32⟩
  | 35 => ⟨S1x1536, .f32⟩
  | 36 => ⟨S1536, .f32⟩
  | 37 => ⟨S1x1x1536, .f32⟩
  | 38 => ⟨S8x2048x1536, .f32⟩
  | 39 => ⟨S8x2048x1536, .f32⟩
  | 40 => ⟨S8x2048x1536, .f32⟩
  | 41 => ⟨S8x2048x1536, .f32⟩
  | 42 => ⟨S1x1536, .f32⟩
  | 43 => ⟨S1536, .f32⟩
  | 44 => ⟨S1x1x1536, .f32⟩
  | 45 => ⟨S8x2048x1536, .f32⟩
  | 46 => ⟨S8x2048x1536, .f32⟩
  | 47 => ⟨S8x2048x1536, .f32⟩
  | 48 => ⟨S8x2048x1536, .f32⟩
  | 49 => ⟨S1x1536, .f32⟩
  | 50 => ⟨S1536, .f32⟩
  | 51 => ⟨S1x1x1536, .f32⟩
  | 52 => ⟨S8x2048x1536, .f32⟩
  | 53 => ⟨S8x2048x1536, .f32⟩
  | 54 => ⟨S8x2048x1536, .f32⟩
  | 55 => ⟨S1x1x1536, .f32⟩
  | 56 => ⟨S8x2048x1536, .f32⟩
  | 57 => ⟨S8x2048x1536, .f32⟩
  | 58 => ⟨S8x2048x1536, .f32⟩
  | 59 => ⟨S8x2048x1536, .f32⟩
  | 60 => ⟨S_, .f32⟩
  | 61 => ⟨S8x2048x1536, .f32⟩
  | 62 => ⟨S8x2048x1536, .f32⟩
  | 63 => ⟨S_, .f32⟩
  | 64 => ⟨S8x2048x1536, .f32⟩
  | 65 => ⟨S8x2048x1536, .f32⟩
  | 66 => ⟨S8x2048x1536, .f32⟩
  | 67 => ⟨S8x2048x1024, .f32⟩
  | 68 => ⟨S8x2048x256, .f32⟩
  | 69 => ⟨S8x2048x256, .f32⟩
  | 70 => ⟨S1x1x16, .f32⟩
  | 71 => ⟨S8x2048x16, .f32⟩
  | 72 => ⟨S8x2048x16, .f32⟩
  | 73 => ⟨S_, .f32⟩
  | 74 => ⟨S8x2048x16, .f32⟩
  | 75 => ⟨S8x2048x16, .f32⟩
  | 76 => ⟨S8x2048x16, .f32⟩
  | 77 => ⟨S8x2048x16, .f32⟩
  | 78 => ⟨S8x2048x16, .i1⟩
  | 79 => ⟨S8x2048x16, .f32⟩
  | 80 => ⟨S8x2048x16, .f32⟩
  | 81 => ⟨S8x2048x16, .f32⟩
  | 82 => ⟨S8x2048x16, .f32⟩
  | 83 => ⟨S8x2048x16, .f32⟩
  | 84 => ⟨S8x2048x16, .f32⟩
  | 85 => ⟨S8x2048x16, .f32⟩
  | 86 => ⟨S8x2048x16, .f32⟩
  | 87 => ⟨S16, .f32⟩
  | 88 => ⟨S16, .f32⟩
  | 89 => ⟨S8x2048x16x64, .f32⟩
  | 90 => ⟨S8x2048x2x128, .f32⟩
  | 91 => ⟨S8x2048x2x128, .f32⟩
  | 92 => ⟨S8x16x128x2x8x64, .f32⟩
  | 93 => ⟨S8x2048x16x1, .f32⟩
  | 94 => ⟨S8x2048x16x64, .f32⟩
  | 95 => ⟨S8x2048x16x64, .f32⟩
  | 96 => ⟨S8x16x128x2x8x64, .f32⟩
  | 97 => ⟨S8x16x128x2x128, .f32⟩
  | 98 => ⟨S8x16x128x2x128, .f32⟩
  | 99 => ⟨S1x1x16, .f32⟩
  | 100 => ⟨S8x2048x16, .f32⟩
  | 101 => ⟨S8x2048x16, .f32⟩
  | 102 => ⟨S8x16x128x2x8, .f32⟩
  | 103 => ⟨S8x2x8x16x128, .f32⟩
  | 104 => ⟨S_, .f32⟩
  | 105 => ⟨S_, .f32⟩
  | 106 => ⟨S8x2x8x16x128, .f32⟩
  | 107 => ⟨S_, .i1⟩
  | 108 => ⟨S128x128, .i1⟩
  | 109 => ⟨S128x128, .i32⟩
  | 110 => ⟨S_, .i32⟩
  | 111 => ⟨S128x128, .i32⟩
  | 112 => ⟨S128x128, .i32⟩
  | 113 => ⟨S128x128, .i32⟩
  | 114 => ⟨S128x128, .i1⟩
  | 115 => ⟨S_, .i1⟩
  | 116 => ⟨S128x128, .i1⟩
  | 117 => ⟨S128x128, .i1⟩
  | 118 => ⟨S8x2x8x16x128x1, .f32⟩
  | 119 => ⟨S8x2x8x16x1x128, .f32⟩
  | 120 => ⟨S8x2x8x16x128x128, .f32⟩
  | 121 => ⟨S8x2x8x16x128x128, .f32⟩
  | 122 => ⟨S8x2x8x16x128x128, .f32⟩
  | 123 => ⟨S_, .f32⟩
  | 124 => ⟨S_, .f32⟩
  | 125 => ⟨S8x2x8x16x128x128, .i1⟩
  | 126 => ⟨S8x2x8x16x128x128, .f32⟩
  | 127 => ⟨S8x2x8x16x128x128, .f32⟩
  | _ => ⟨S8x2048x1024, .f32⟩

abbrev hbmTy0_1 (i : Nat) : BufTy := match i % 128 with
  | 0 => ⟨S8x2x8x16x128x128, .f32⟩
  | 1 => ⟨S8x2x16x128x128, .f32⟩
  | 2 => ⟨S8x2x1x16x128x128, .f32⟩
  | 3 => ⟨S8x2x8x16x128x128, .f32⟩
  | 4 => ⟨S8x2x8x16x128x128, .f32⟩
  | 5 => ⟨S8x16x2x8x64x128, .f32⟩
  | 6 => ⟨S8x16x128x2x8x64, .f32⟩
  | 7 => ⟨S8x2x8x16x1, .f32⟩
  | 8 => ⟨S8x2x8x16x128, .f32⟩
  | 9 => ⟨S8x2x8x16x128, .f32⟩
  | 10 => ⟨S8x2x8x16x128, .f32⟩
  | 11 => ⟨S8x16x128x2x8, .f32⟩
  | 12 => ⟨S8x16x128x2x8x1, .f32⟩
  | 13 => ⟨S8x16x128x2x8x64, .f32⟩
  | 14 => ⟨S8x16x128x2x8x64, .f32⟩
  | 15 => ⟨S8x16x2x8x64x128, .f32⟩
  | 16 => ⟨S8x2x8x16x1, .f32⟩
  | 17 => ⟨S8x2x8x16, .f32⟩
  | 18 => ⟨S8x2x8x16, .f32⟩
  | 19 => ⟨S8x1x2x8x64x128, .f32⟩
  | 20 => ⟨S8x2x8x64x128, .f32⟩
  | 21 => ⟨S_, .f32⟩
  | 22 => ⟨S8x2x8x64x128, .f32⟩
  | 23 => ⟨S16x8x2x8x64x128, .f32⟩
  | 24 => ⟨S16x8x2x8, .f32⟩
  | 25 => ⟨S_, .f32⟩
  | 26 => ⟨S16x8x2x8x64x128, .f32⟩
  | 27 => ⟨S_, .i32⟩
  | 28 => ⟨S16x8x2x8x64x128, .f32⟩
  | 29 => ⟨S16x8x2x8, .f32⟩
  | 30 => ⟨S_, .i32⟩
  | 31 => ⟨S8x2x8x64x128, .f32⟩
  | 32 => ⟨S16x8x2x8x64x128, .f32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S1x8x2x8x64x128, .f32⟩
  | 41 => ⟨S8x2x8x64x128, .f32⟩
  | 42 => ⟨S_, .i32⟩
  | 43 => ⟨S_, .i32⟩
  | 44 => ⟨S_, .i32⟩
  | 45 => ⟨S1x8x2x8, .f32⟩
  | 46 => ⟨S8x2x8, .f32⟩
  | 47 => ⟨S8x2x8x1x1, .f32⟩
  | 48 => ⟨S8x2x8x64x128, .f32⟩
  | 49 => ⟨S8x2x8x64x128, .f32⟩
  | 50 => ⟨S8x2x8x64x128, .f32⟩
  | 51 => ⟨S1x8x2x8x64x128, .f32⟩
  | 52 => ⟨S_, .i32⟩
  | 53 => ⟨S_, .i32⟩
  | 54 => ⟨S_, .i32⟩
  | 55 => ⟨S_, .i32⟩
  | 56 => ⟨S_, .i32⟩
  | 57 => ⟨S16x8x2x8x64x128, .f32⟩
  | 58 => ⟨S_, .i32⟩
  | 59 => ⟨S_, .i32⟩
  | 60 => ⟨S8x16x2x8x64x128, .f32⟩
  | 61 => ⟨S8x16x2x8x64x128, .f32⟩
  | 62 => ⟨S8x16x128x2x8x64, .f32⟩
  | 63 => ⟨S8x2x8x16x128, .f32⟩
  | 64 => ⟨S8x16x128x2x8, .f32⟩
  | 65 => ⟨S8x16x128x2x8x1, .f32⟩
  | 66 => ⟨S8x16x128x2x8x64, .f32⟩
  | 67 => ⟨S8x16x128x2x8x64, .f32⟩
  | 68 => ⟨S8x16x128x2x8x64, .f32⟩
  | 69 => ⟨S2x8x1, .f32⟩
  | 70 => ⟨S1x1x1x2x8x1, .f32⟩
  | 71 => ⟨S8x16x128x2x8x64, .f32⟩
  | 72 => ⟨S8x16x128x2x8x64, .f32⟩
  | 73 => ⟨S8x16x128x2x8x64, .f32⟩
  | 74 => ⟨S8x2048x1024, .f32⟩
  | 75 => ⟨S8x2048x1024, .f32⟩
  | 76 => ⟨S8x2048x1024, .f32⟩
  | 77 => ⟨S_, .f32⟩
  | 78 => ⟨S8x2048x1024, .f32⟩
  | 79 => ⟨S8x2048x1024, .f32⟩
  | 80 => ⟨S_, .f32⟩
  | 81 => ⟨S8x2048x1024, .f32⟩
  | 82 => ⟨S8x2048x1024, .f32⟩
  | 83 => ⟨S8x2048x1024, .f32⟩
  | 84 => ⟨S8x2048x1024, .f32⟩
  | 85 => ⟨S8x2048x2x512, .f32⟩
  | 86 => ⟨S2x512, .f32⟩
  | 87 => ⟨S8x2048x2x512, .f32⟩
  | 88 => ⟨S_, .f32⟩
  | 89 => ⟨S8x2048x2, .f32⟩
  | 90 => ⟨S8x2048x2x1, .f32⟩
  | 91 => ⟨S_, .f32⟩
  | 92 => ⟨S8x2048x2x1, .f32⟩
  | 93 => ⟨S8x2048x2x1, .f32⟩
  | 94 => ⟨S_, .f32⟩
  | 95 => ⟨S8x2048x2x1, .f32⟩
  | 96 => ⟨S8x2048x2x1, .f32⟩
  | 97 => ⟨S8x2048x2x1, .f32⟩
  | 98 => ⟨S8x2048x2x512, .f32⟩
  | 99 => ⟨S8x2048x2x512, .f32⟩
  | 100 => ⟨S1x1x2x512, .f32⟩
  | 101 => ⟨S8x2048x2x512, .f32⟩
  | 102 => ⟨S8x2048x2x512, .f32⟩
  | 103 => ⟨S8x2048x1024, .f32⟩
  | 104 => ⟨S16384x1024, .f32⟩
  | 105 => ⟨S16384x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call3_call0_cst : Ref sig .tc := ⟨.hbm, 104, rfl⟩
abbrev main_call3_call0_v0 : Ref sig .tc := ⟨.hbm, 105, rfl⟩
abbrev main_v70 : Ref sig .tc := ⟨.hbm, 106, rfl⟩
abbrev main_c_0 : Ref sig .tc := ⟨.hbm, 107, rfl⟩
abbrev main_v71 : Ref sig .tc := ⟨.hbm, 108, rfl⟩
abbrev main_call4_v0 : Ref sig .tc := ⟨.hbm, 109, rfl⟩
abbrev main_call4_c : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_c_0 : Ref sig .tc := ⟨.hbm, 115, rfl⟩
abbrev main_call4_v5 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_1 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_2 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_3 : Ref sig .tc := ⟨.hbm, 153, rfl⟩
abbrev main_v103 : Ref sig .tc := ⟨.hbm, 154, rfl⟩
abbrev main_c_4 : Ref sig .tc := ⟨.hbm, 155, rfl⟩
abbrev main_v104_0 : Ref sig .tc := ⟨.hbm, 156, rfl⟩
abbrev main_v104_1 : Ref sig .tc := ⟨.hbm, 157, rfl⟩
abbrev main_v104_2 : Ref sig .tc := ⟨.hbm, 158, rfl⟩
abbrev main_v104_3 : Ref sig .tc := ⟨.hbm, 159, rfl⟩
abbrev main_v104_4 : Ref sig .tc := ⟨.hbm, 160, rfl⟩
abbrev main_while0c_c_12 : Ref sig .tc := ⟨.hbm, 161, rfl⟩
abbrev main_while0c_v140 : Ref sig .tc := ⟨.hbm, 162, rfl⟩
abbrev main_while0b_call6_c : Ref sig .tc := ⟨.hbm, 163, rfl⟩
abbrev main_while0b_call6_c_0 : Ref sig .tc := ⟨.hbm, 164, rfl⟩
abbrev main_while0b_call6_c_1 : Ref sig .tc := ⟨.hbm, 165, rfl⟩
abbrev main_while0b_call6_c_2 : Ref sig .tc := ⟨.hbm, 166, rfl⟩
abbrev main_while0b_call6_c_3 : Ref sig .tc := ⟨.hbm, 167, rfl⟩
abbrev main_while0b_call6_v0 : Ref sig .tc := ⟨.hbm, 168, rfl⟩
abbrev main_while0b_v140 : Ref sig .tc := ⟨.hbm, 169, rfl⟩
abbrev main_while0b_call7_c : Ref sig .tc := ⟨.hbm, 170, rfl⟩
abbrev main_while0b_call7_c_0 : Ref sig .tc := ⟨.hbm, 171, rfl⟩
abbrev main_while0b_call7_c_1 : Ref sig .tc := ⟨.hbm, 172, rfl⟩
abbrev main_while0b_call7_v0 : Ref sig .tc := ⟨.hbm, 173, rfl⟩
abbrev main_while0b_v141 : Ref sig .tc := ⟨.hbm, 174, rfl⟩
abbrev main_while0b_v142 : Ref sig .tc := ⟨.hbm, 175, rfl⟩
abbrev main_while0b_v143 : Ref sig .tc := ⟨.hbm, 176, rfl⟩
abbrev main_while0b_v144 : Ref sig .tc := ⟨.hbm, 177, rfl⟩
abbrev main_while0b_v145 : Ref sig .tc := ⟨.hbm, 178, rfl⟩
abbrev main_while0b_call8_v0 : Ref sig .tc := ⟨.hbm, 179, rfl⟩
abbrev main_while0b_call8_c : Ref sig .tc := ⟨.hbm, 180, rfl⟩
abbrev main_while0b_call8_c_0 : Ref sig .tc := ⟨.hbm, 181, rfl⟩
abbrev main_while0b_call8_c_1 : Ref sig .tc := ⟨.hbm, 182, rfl⟩
abbrev main_while0b_call8_c_2 : Ref sig .tc := ⟨.hbm, 183, rfl⟩
abbrev main_while0b_call8_c_3 : Ref sig .tc := ⟨.hbm, 184, rfl⟩
abbrev main_while0b_v146 : Ref sig .tc := ⟨.hbm, 185, rfl⟩
abbrev main_while0b_c_12 : Ref sig .tc := ⟨.hbm, 186, rfl⟩
abbrev main_while0b_v147 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_call9_v0 : Ref sig .tc := ⟨.hbm, 203, rfl⟩
abbrev main_call9_v1 : Ref sig .tc := ⟨.hbm, 204, rfl⟩
abbrev main_call9_cst : Ref sig .tc := ⟨.hbm, 205, rfl⟩
abbrev main_call9_v2 : Ref sig .tc := ⟨.hbm, 206, rfl⟩
abbrev main_call9_v3 : Ref sig .tc := ⟨.hbm, 207, rfl⟩
abbrev main_call9_cst_0 : Ref sig .tc := ⟨.hbm, 208, rfl⟩
abbrev main_call9_v4 : Ref sig .tc := ⟨.hbm, 209, rfl⟩
abbrev main_call9_v5 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_5 : Ref sig .tc := ⟨.hbm, 216, rfl⟩
abbrev main_v125 : Ref sig .tc := ⟨.hbm, 217, rfl⟩
abbrev main_v126 : Ref sig .tc := ⟨.hbm, 218, rfl⟩
abbrev main_cst_6 : Ref sig .tc := ⟨.hbm, 219, rfl⟩
abbrev main_v127 : Ref sig .tc := ⟨.hbm, 220, rfl⟩
abbrev main_v128 : Ref sig .tc := ⟨.hbm, 221, rfl⟩
abbrev main_cst_7 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩

abbrev nD : Nat := 1
abbrev τ : Topo := Topo.v7x

variable {F : FTy → Type} [FloatOps F]

def κ : String → Option EReal := fun
  | "mask" => some ⊥
  | _ => none

abbrev main_while0_count : Scf.Loop 32 := ⟨0#32, 16#32, 1#32⟩
-- ==== Kernel2.lean ====
abbrev S8x2048x1024 : Shape := ⟨3, ![8, 2048, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S16384x1024 : Shape := ⟨2, ![16384, 1024]⟩
abbrev S4x1x1024 : Shape := ⟨3, ![4, 1, 1024]⟩
abbrev S1024x1024 : Shape := ⟨2, ![1024, 1024]⟩
abbrev S1x1x1024 : Shape := ⟨3, ![1, 1, 1024]⟩
abbrev S1x1024x256 : Shape := ⟨3, ![1, 1024, 256]⟩
abbrev S1x256x1024 : Shape := ⟨3, ![1, 256, 1024]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 9
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S16384x1024, .f32⟩
  | .hbm, ⟨5, _⟩ => ⟨S4x1x1024, .f32⟩
  | .hbm, ⟨6, _⟩ => ⟨S4x1024x5632, .bf16⟩
  | .hbm, ⟨7, _⟩ => ⟨S4x2816x1024, .bf16⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x2048x1024 : Shape := ⟨3, ![8, 2048, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1x1024x5632, .f32⟩
  | .hbm, ⟨23, _⟩ => ⟨S1024x5632, .f32⟩
  | .hbm, ⟨24, _⟩ => ⟨S1x2816x1024, .f32⟩
  | .hbm, ⟨25, _⟩ => ⟨S2816x1024, .f32⟩
  | .hbm, ⟨26, _⟩ => ⟨S8x2048x5632, .f32⟩
  | .hbm, ⟨27, _⟩ => ⟨S8x2048x2816, .f32⟩
  | .hbm, ⟨28, _⟩ => ⟨S8x2048x2816, .f32⟩
  | .hbm, ⟨29, _⟩ => ⟨S8x2048x2816, .f32⟩
  | .hbm, ⟨30, _⟩ => ⟨S8x2048x2816, .f32⟩
  | .hbm, ⟨31, _⟩ => ⟨S_, .f32⟩
  | .hbm, ⟨32, _⟩ => ⟨S8x2048x2816, .f32⟩
  | .hbm, ⟨33, _⟩ => ⟨S8x2048x2816, .f32⟩
  | .hbm, ⟨34, _⟩ => ⟨S_, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x2816, .f32⟩
  | .hbm, ⟨39, _⟩ => ⟨S8x2048x1024, .f32⟩
  | .hbm, ⟨40, _⟩ => ⟨S_, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel3.lean ====
abbrev S8x2048x1024 : Shape := ⟨3, ![8, 2048, 1024]⟩
abbrev S4x8x2048x256 : Shape := ⟨4, ![4, 8, 2048, 256]⟩
abbrev S4x1024 : Shape := ⟨2, ![4, 1024]⟩
abbrev S4x1024x1024 : Shape := ⟨3, ![4, 1024, 1024]⟩
abbrev S4x256x1024 : Shape := ⟨3, ![4, 256, 1024]⟩
abbrev S1024 : Shape := ⟨1, ![1024]⟩
abbrev S16384x1024 : Shape := ⟨2, ![16384, 1024]⟩
abbrev S4x16384x256 : Shape := ⟨3, ![4, 16384, 256]⟩
abbrev S4x1x1024 : Shape := ⟨3, ![4, 1, 1024]⟩
abbrev S1x1024 : Shape := ⟨2, ![1, 1024]⟩
abbrev S1024x1024 : Shape := ⟨2, ![1024, 1024]⟩
abbrev S1x1024x256 : Shape := ⟨3, ![1, 1024, 256]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S4x8x2048x256, .f32⟩
  | .hbm, ⟨2, _⟩ => ⟨S4x1024, .f32⟩
  | .hbm, ⟨3, _⟩ => ⟨S4x1024x1024, .f32⟩
  | .hbm, ⟨4, _⟩ => ⟨S4x256x1024, .f32⟩
  | .hbm, ⟨5, _⟩ => ⟨S1024, .f32⟩
  | .hbm, ⟨6, _⟩ => ⟨S16384x1024, .f32⟩
  | .hbm, ⟨7, _⟩ => ⟨S4x16384x256, .f32⟩
  | .hbm, ⟨8, _⟩ => ⟨S4x1x1024, .f32⟩
  | .hbm, ⟨9, _⟩ => ⟨S4x1024x1024, .bf16⟩
  | .hbm, ⟨10, _⟩ => ⟨S4x256x1024, .bf16⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1x1024, .f32⟩
  | .local _ .vmem, ⟨5, _⟩ => ⟨S1x1024x1024, .bf16⟩
  | .local _ .vmem, ⟨6, _⟩ => ⟨S1x256x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x2048x1024 : Shape := ⟨3, ![8, 2048, 1024]⟩
abbrev S4x8x2048x256 : Shape := ⟨4, ![4, 8, 2048, 256]⟩
abbrev S4x1024 : Shape := ⟨2, ![4, 1024]⟩
abbrev S4x1024x1024 : Shape := ⟨3, ![4, 1024, 1024]⟩
abbrev S4x256x1024 : Shape := ⟨3, ![4, 256, 1024]⟩
abbrev S1024 : Shape := ⟨1, ![1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x8x2048x256 : Shape := ⟨4, ![1, 8, 2048, 256]⟩
abbrev S8x2048x256 : Shape := ⟨3, ![8, 2048, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x8x2048x256, .f32⟩
  | .hbm, ⟨2, _⟩ => ⟨S4x1024, .f32⟩
  | .hbm, ⟨3, _⟩ => ⟨S4x1024x1024, .f32⟩
  | .hbm, ⟨4, _⟩ => ⟨S4x256x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S1x1024x1024, .f32⟩
  | .hbm, ⟨25, _⟩ => ⟨S1024x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S1x8x2048x256, .f32⟩
  | .hbm, ⟨36, _⟩ => ⟨S8x2048x256, .f32⟩
  | .hbm, ⟨37, _⟩ => ⟨S1x256x1024, .f32⟩
  | .hbm, ⟨38, _⟩ => ⟨S256x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x2048x512 : Shape := ⟨3, ![8, 2048, 512]⟩
abbrev S4x512 : Shape := ⟨2, ![4, 512]⟩
abbrev S4x1536x1024 : Shape := ⟨3, ![4, 1536, 1024]⟩
abbrev S512 : Shape := ⟨1, ![512]⟩
abbrev S16384x1024 : Shape := ⟨2, ![16384, 1024]⟩
abbrev S16384x512 : Shape := ⟨2, ![16384, 512]⟩
abbrev S_ : Shape := ⟨0, ![]⟩
abbrev S512x1 : Shape := ⟨2, ![512, 1]⟩
abbrev S1 : Shape := ⟨1, ![1]⟩
abbrev S1x1 : Shape := ⟨2, ![1, 1]⟩
abbrev S4x1x512 : Shape := ⟨3, ![4, 1, 512]⟩
abbrev S4x512x1024 : Shape := ⟨3, ![4, 512, 1024]⟩
abbrev S4x1024x1024 : Shape := ⟨3, ![4, 1024, 1024]⟩
abbrev S1024x1024 : Shape := ⟨2, ![1024, 1024]⟩
abbrev S1024x512 : Shape := ⟨2, ![1024, 512]⟩
abbrev S1x1x512 : Shape := ⟨3, ![1, 1, 512]⟩
abbrev S1x512x1024 : Shape := ⟨3, ![1, 512, 1024]⟩
abbrev S1x1024x1024 : Shape := ⟨3, ![1, 1024, 1024]⟩
abbrev S1x512 : Shape := ⟨2, ![1, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 63
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x1024, .f32⟩
  | .hbm, ⟨3, _⟩ => ⟨S4x512, .f32⟩
  | .hbm, ⟨4, _⟩ => ⟨S4x1536x1024, .f32⟩
  | .hbm, ⟨5, _⟩ => ⟨S512, .i32⟩
  | .hbm, ⟨6, _⟩ => ⟨S512, .i32⟩
  | .hbm, ⟨7, _⟩ => ⟨S16384x1024, .f32⟩
  | .hbm, ⟨8, _⟩ => ⟨S16384x512, .f32⟩
  | .hbm, ⟨9, _⟩ => ⟨S16384x1024, .f32⟩
  | .hbm, ⟨10, _⟩ => ⟨S16384x1024, .bf16⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S1, .i32⟩
  | .hbm, ⟨20, _⟩ => ⟨S_, .i32⟩
  | .hbm, ⟨21, _⟩ => ⟨S512x1, .i32⟩
  | .hbm, ⟨22, _⟩ => ⟨S512x1, .i1⟩
  | .hbm, ⟨23, _⟩ => ⟨S1x1, .i32⟩
  | .hbm, ⟨24, _⟩ => ⟨S512x1, .i32⟩
  | .hbm, ⟨25, _⟩ => ⟨S512x1, .i1⟩
  | .hbm, ⟨26, _⟩ => ⟨S512x1, .i1⟩
  | .hbm, ⟨27, _⟩ => ⟨S_, .i1⟩
  | .hbm, ⟨28, _⟩ => ⟨S512, .i1⟩
  | .hbm, ⟨29, _⟩ => ⟨S4x512, .f32⟩
  | .hbm, ⟨30, _⟩ => ⟨S4x512, .i1⟩
  | .hbm, ⟨31, _⟩ => ⟨S_, .f32⟩
  | .hbm, ⟨32, _⟩ => ⟨S4x512, .f32⟩
  | .hbm, ⟨33, _⟩ => ⟨S4x512, .f32⟩
  | .hbm, ⟨34, _⟩ => ⟨S4x1x512, .f32⟩
  | .hbm, ⟨35, _⟩ => ⟨S4x512x1024, .f32⟩
  | .hbm, ⟨36, _⟩ => ⟨S_, .i32⟩
  | .hbm, ⟨37, _⟩ => ⟨S512, .i32⟩
  | .hbm, ⟨38, _⟩ => ⟨S512, .i1⟩
  | .hbm, ⟨39, _⟩ => ⟨S_, .i32⟩
  | .hbm, ⟨40, _⟩ => ⟨S512, .i32⟩
  | .hbm, ⟨41, _⟩ => ⟨S512, .i32⟩
  | .hbm, ⟨42, _⟩ => ⟨S512, .i32⟩
  | .hbm, ⟨43, _⟩ => ⟨S512x1, .i32⟩
  | .hbm, ⟨44, _⟩ => ⟨S1, .i32⟩
  | .hbm, ⟨45, _⟩ => ⟨S_, .i32⟩
  | .hbm, ⟨46, _⟩ => ⟨S512x1, .i32⟩
  | .hbm, ⟨47, _⟩ => ⟨S512x1, .i1⟩
  | .hbm, ⟨48, _⟩ => ⟨S1x1, .i32⟩
  | .hbm, ⟨49, _⟩ => ⟨S512x1, .i32⟩
  | .hbm, ⟨50, _⟩ => ⟨S512x1, .i1⟩
  | .hbm, ⟨51, _⟩ => ⟨S512x1, .i1⟩
  | .hbm, ⟨52, _⟩ => ⟨S_, .i1⟩
  | .hbm, ⟨53, _⟩ => ⟨S512, .i1⟩
  | .hbm, ⟨54, _⟩ => ⟨S4x512x1024, .f32⟩
  | .hbm, ⟨55, _⟩ => ⟨S4x512x1024, .i1⟩
  | .hbm, ⟨56, _⟩ => ⟨S_, .f32⟩
  | .hbm, ⟨57, _⟩ => ⟨S4x512x1024, .f32⟩
  | .hbm, ⟨58, _⟩ => ⟨S4x512x1024, .f32⟩
  | .hbm, ⟨59, _⟩ => ⟨S4x512x1024, .bf16⟩
  | .hbm, ⟨60, _⟩ => ⟨S4x1024x1024, .f32⟩
  | .hbm, ⟨61, _⟩ => ⟨S4x1024x1024, .bf16⟩
  | .hbm, ⟨62, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S1024x1024, .bf16⟩
  | .local _ .vmem, ⟨6, _⟩ => ⟨S1x1x512, .f32⟩
  | .local _ .vmem, ⟨7, _⟩ => ⟨S1x512x1024, .bf16⟩
  | .local _ .vmem, ⟨8, _⟩ => ⟨S1x1024x1024, .bf16⟩
  | .local _ .vmem, ⟨9, _⟩ => ⟨S1024x1024, .f32⟩
  | .local _ .vmem, ⟨10, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8x2048x1024 : Shape := ⟨3, ![8, 2048, 1024]⟩
abbrev S8x2048x512 : Shape := ⟨3, ![8, 2048, 512]⟩
abbrev S4x512 : Shape := ⟨2, ![4, 512]⟩
abbrev S4x1536x1024 : Shape := ⟨3, ![4, 1536, 1024]⟩
abbrev S8x2048x4x2x64 : Shape := ⟨5, ![8, 2048, 4, 2, 64]⟩
abbrev S8x2048x2x4x64 : Shape := ⟨5, ![8, 2048, 2, 4, 64]⟩
abbrev S1x512 : Shape := ⟨2, ![1, 512]⟩
abbrev S512 : Shape := ⟨1, ![512]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩
abbrev S8x2048x1536 : Shape := ⟨3, ![8, 2048, 1536]⟩
abbrev S1x1536x1024 : Shape := ⟨3, ![1, 1536, 1024]⟩
abbrev S1536x1024 : Shape := ⟨2, ![1536, 1024]⟩
abbrev S16384x1024 : Shape := ⟨2, ![16384, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x1024, .f32⟩
  | .hbm, ⟨3, _⟩ => ⟨S4x512, .f32⟩
  | .hbm, ⟨4, _⟩ => ⟨S4x1536x1024, .f32⟩
  | .hbm, ⟨5, _⟩ => ⟨S8x2048x4x2x64, .f32⟩
  | .hbm, ⟨6, _⟩ => ⟨S8x2048x2x4x64, .f32⟩
  | .hbm, ⟨7, _⟩ => ⟨S8x2048x512, .f32⟩
  | .hbm, ⟨8, _⟩ => ⟨S1x512, .f32⟩
  | .hbm, ⟨9, _⟩ => ⟨S512, .f32⟩
  | .hbm, ⟨10, _⟩ => ⟨S8x2048x512, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x512, .f32⟩
  | .hbm, ⟨22, _⟩ => ⟨S8x2048x512, .f32⟩
  | .hbm, ⟨23, _⟩ => ⟨S1x1x512, .f32⟩
  | .hbm, ⟨24, _⟩ => ⟨S8x2048x512, .f32⟩
  | .hbm, ⟨25, _⟩ => ⟨S8x2048x512, .f32⟩
  | .hbm, ⟨26, _⟩ => ⟨S8x2048x1536, .f32⟩
  | .hbm, ⟨27, _⟩ => ⟨S1x1536x1024, .f32⟩
  | .hbm, ⟨28, _⟩ => ⟨S1536x1024, .f32⟩
  | .hbm, ⟨29, _⟩ => ⟨S8x2048x1024, .f32⟩
  | .hbm, ⟨30, _⟩ => ⟨S8x2048x1024, .f32⟩
  | .hbm, ⟨31, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S8x2048x1024 : Shape := ⟨3, ![8, 2048, 1024]⟩
abbrev S4x1024 : Shape := ⟨2, ![4, 1024]⟩
abbrev S4x1024x3968 : Shape := ⟨3, ![4, 1024, 3968]⟩
abbrev S16384x1024 : Shape := ⟨2, ![16384, 1024]⟩
abbrev S4x1x1024 : Shape := ⟨3, ![4, 1, 1024]⟩
abbrev S16384x512 : Shape := ⟨2, ![16384, 512]⟩
abbrev S1024x2048 : Shape := ⟨2, ![1024, 2048]⟩
abbrev S16384x128 : Shape := ⟨2, ![16384, 128]⟩
abbrev S16384x1536 : Shape := ⟨2, ![16384, 1536]⟩
abbrev S512x1024 : Shape := ⟨2, ![512, 1024]⟩
abbrev S1x1x1024 : Shape := ⟨3, ![1, 1, 1024]⟩
abbrev S1x1024x3968 : Shape := ⟨3, ![1, 1024, 3968]⟩
abbrev S512x512 : Shape := ⟨2, ![512, 512]⟩
abbrev S32x2048 : Shape := ⟨2, ![32, 2048]⟩
abbrev S512x128 : Shape := ⟨2, ![512, 128]⟩
abbrev S512x1536 : Shape := ⟨2, ![512, 1536]⟩
abbrev S1x1024 : Shape := ⟨2, ![1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x1024x128 : Shape := ⟨3, ![1, 1024, 128]⟩
abbrev S1024x128 : Shape := ⟨2, ![1024, 128]⟩
abbrev S32x128 : Shape := ⟨2, ![32, 128]⟩
abbrev S1x1024x1024 : Shape := ⟨3, ![1, 1024, 1024]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 12
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x3968, .bf16⟩
  | .hbm, ⟨3, _⟩ => ⟨S16384x1024, .f32⟩
  | .hbm, ⟨4, _⟩ => ⟨S4x1x1024, .f32⟩
  | .hbm, ⟨5, _⟩ => ⟨S16384x512, .f32⟩
  | .hbm, ⟨6, _⟩ => ⟨S1024x2048, .f32⟩
  | .hbm, ⟨7, _⟩ => ⟨S1024x2048, .f32⟩
  | .hbm, ⟨8, _⟩ => ⟨S16384x512, .bf16⟩
  | .hbm, ⟨9, _⟩ => ⟨S16384x128, .f32⟩
  | .hbm, ⟨10, _⟩ => ⟨S16384x1024, .f32⟩
  | .hbm, ⟨11, _⟩ => ⟨S16384x1536, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x3968, .bf16⟩
  | .local _ .vmem, ⟨4, _⟩ => ⟨S512x512, .f32⟩
  | .local _ .vmem, ⟨5, _⟩ => ⟨S512x512, .f32⟩
  | .local _ .vmem, ⟨6, _⟩ => ⟨S32x2048, .f32⟩
  | .local _ .vmem, ⟨7, _⟩ => ⟨S32x2048, .f32⟩
  | .local _ .vmem, ⟨8, _⟩ => ⟨S32x2048, .f32⟩
  | .local _ .vmem, ⟨9, _⟩ => ⟨S32x2048, .f32⟩
  | .local _ .vmem, ⟨10, _⟩ => ⟨S512x512, .bf16⟩
  | .local _ .vmem, ⟨11, _⟩ => ⟨S512x512, .bf16⟩
  | .local _ .vmem, ⟨12, _⟩ => ⟨S512x128, .f32⟩
  | .local _ .vmem, ⟨13, _⟩ => ⟨S512x128, .f32⟩
  | .local _ .vmem, ⟨14, _⟩ => ⟨S512x1024, .f32⟩
  | .local _ .vmem, ⟨15, _⟩ => ⟨S512x1024, .f32⟩
  | .local _ .vmem, ⟨16, _⟩ => ⟨S512x1536, .f32⟩
  | .local _ .vmem, ⟨17, _⟩ => ⟨S512x1536, .f32⟩
  | .local _ .vmem, ⟨18, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S8x2048x1024 : Shape := ⟨3, ![8, 2048, 1024]⟩
abbrev S4x1024 : Shape := ⟨2, ![4, 1024]⟩
abbrev S4x1024x3968 : Shape := ⟨3, ![4, 1024, 3968]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x3968 : Shape := ⟨3, ![1, 1024, 3968]⟩
abbrev S1024x3968 : Shape := ⟨2, ![1024, 3968]⟩
abbrev S8x2048x3968 : Shape := ⟨3, ![8, 2048, 3968]⟩
abbrev S8x2048x512 : Shape := ⟨3, ![8, 2048, 512]⟩
abbrev S8x2048x128 : Shape := ⟨3, ![8, 2048, 128]⟩
abbrev S8x2048x1536 : Shape := ⟨3, ![8, 2048, 1536]⟩
abbrev S16384x512 : Shape := ⟨2, ![16384, 512]⟩
abbrev S1024x2048 : Shape := ⟨2, ![1024, 2048]⟩
abbrev S16384x128 : Shape := ⟨2, ![16384, 128]⟩
abbrev S16384x1024 : Shape := ⟨2, ![16384, 1024]⟩
abbrev S16384x1536 : Shape := ⟨2, ![16384, 1536]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x3968, .bf16⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1x1024x3968, .bf16⟩
  | .hbm, ⟨22, _⟩ => ⟨S1024x3968, .bf16⟩
  | .hbm, ⟨23, _⟩ => ⟨S1024x3968, .f32⟩
  | .hbm, ⟨24, _⟩ => ⟨S8x2048x3968, .f32⟩
  | .hbm, ⟨25, _⟩ => ⟨S8x2048x512, .f32⟩
  | .hbm, ⟨26, _⟩ => ⟨S8x2048x128, .f32⟩
  | .hbm, ⟨27, _⟩ => ⟨S8x2048x128, .f32⟩
  | .hbm, ⟨28, _⟩ => ⟨S8x2048x512, .f32⟩
  | .hbm, ⟨29, _⟩ => ⟨S8x2048x128, .f32⟩
  | .hbm, ⟨30, _⟩ => ⟨S8x2048x1024, .f32⟩
  | .hbm, ⟨31, _⟩ => ⟨S8x2048x1536, .f32⟩
  | .hbm, ⟨32, _⟩ => ⟨S16384x512, .f32⟩
  | .hbm, ⟨33, _⟩ => ⟨S1024x2048, .f32⟩
  | .hbm, ⟨34, _⟩ => ⟨S1024x2048, .f32⟩
  | .hbm, ⟨35, _⟩ => ⟨S16384x512, .f32⟩
  | .hbm, ⟨36, _⟩ => ⟨S16384x512, .bf16⟩
  | .hbm, ⟨37, _⟩ => ⟨S16384x128, .f32⟩
  | .hbm, ⟨38, _⟩ => ⟨S16384x1024, .f32⟩
  | .hbm, ⟨39, _⟩ => ⟨S16384x1536, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Kernel6.lean ====
abbrev S4x1024x3880 : Shape := ⟨3, ![4, 1024, 3880]⟩
abbrev S4x1024x3968 : Shape := ⟨3, ![4, 1024, 3968]⟩
abbrev S1x256x3880 : Shape := ⟨3, ![1, 256, 3880]⟩
abbrev S1x256x3968 : Shape := ⟨3, ![1, 256, 3968]⟩
abbrev S1x256x768 : Shape := ⟨3, ![1, 256, 768]⟩
abbrev S256x768 : Shape := ⟨2, ![256, 768]⟩
abbrev S1x256x2560 : Shape := ⟨3, ![1, 256, 2560]⟩
abbrev S256x2560 : Shape := ⟨2, ![256, 2560]⟩
abbrev S1x256x64 : Shape := ⟨3, ![1, 256, 64]⟩
abbrev S256x64 : Shape := ⟨2, ![256, 64]⟩
abbrev S1x256x24 : Shape := ⟨3, ![1, 256, 24]⟩
abbrev S256x24 : Shape := ⟨2, ![256, 24]⟩
abbrev S1x256x16 : Shape := ⟨3, ![1, 256, 16]⟩
abbrev S256x16 : Shape := ⟨2, ![256, 16]⟩
abbrev S256x88 : Shape := ⟨2, ![256, 88]⟩
abbrev S1x256x88 : Shape := ⟨3, ![1, 256, 88]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x3880, .f32⟩
  | .hbm, ⟨1, _⟩ => ⟨S4x1024x3968, .bf16⟩
  | .local _ .vmem, ⟨0, _⟩ => ⟨S1x256x3880, .f32⟩
  | .local _ .vmem, ⟨1, _⟩ => ⟨S1x256x3880, .f32⟩
  | .local _ .vmem, ⟨2, _⟩ => ⟨S1x256x3968, .bf16⟩
  | .local _ .vmem, ⟨3, _⟩ => ⟨S1x256x3968, .bf16⟩
  | _, _ => ⟨S4x1024x3880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3880 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3968 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference6Ideal.lean ====
abbrev S4x1024x3880 : Shape := ⟨3, ![4, 1024, 3880]⟩
abbrev S4x1024x512 : Shape := ⟨3, ![4, 1024, 512]⟩
abbrev S4x1024x128 : Shape := ⟨3, ![4, 1024, 128]⟩
abbrev S4x1024x24 : Shape := ⟨3, ![4, 1024, 24]⟩
abbrev S4x1024x1024 : Shape := ⟨3, ![4, 1024, 1024]⟩
abbrev S4x1024x1536 : Shape := ⟨3, ![4, 1024, 1536]⟩
abbrev S4x1024x16 : Shape := ⟨3, ![4, 1024, 16]⟩
abbrev S4x1024x2x4x64 : Shape := ⟨5, ![4, 1024, 2, 4, 64]⟩
abbrev S4x1024x4x2x64 : Shape := ⟨5, ![4, 1024, 4, 2, 64]⟩
abbrev S_ : Shape := ⟨0, ![]⟩
abbrev S4x1024x88 : Shape := ⟨3, ![4, 1024, 88]⟩
abbrev S4x1024x3968 : Shape := ⟨3, ![4, 1024, 3968]⟩

abbrev nBuf : Space → Nat
  | .hbm => 19
  | .vmem => 0
  | .smem => 0
  | _ => 0

abbrev bufTy : (tb : Table) → Fin (tcTables nBuf tb) → BufTy
  | .hbm, ⟨0, _⟩ => ⟨S4x1024x3880, .f32⟩
  | .hbm, ⟨1, _⟩ => ⟨S4x1024x512, .f32⟩
  | .hbm, ⟨2, _⟩ => ⟨S4x1024x128, .f32⟩
  | .hbm, ⟨3, _⟩ => ⟨S4x1024x128, .f32⟩
  | .hbm, ⟨4, _⟩ => ⟨S4x1024x128, .f32⟩
  | .hbm, ⟨5, _⟩ => ⟨S4x1024x128, .f32⟩
  | .hbm, ⟨6, _⟩ => ⟨S4x1024x128, .f32⟩
  | .hbm, ⟨7, _⟩ => ⟨S4x1024x128, .f32⟩
  | .hbm, ⟨8, _⟩ => ⟨S4x1024x24, .f32⟩
  | .hbm, ⟨9, _⟩ => ⟨S4x1024x1024, .f32⟩
  | .hbm, ⟨10, _⟩ => ⟨S4x1024x1536, .f32⟩
  | .hbm, ⟨11, _⟩ => ⟨S4x1024x16, .f32⟩
  | .hbm, ⟨12, _⟩ => ⟨S4x1024x2x4x64, .f32⟩
  | .hbm, ⟨13, _⟩ => ⟨S4x1024x4x2x64, .f32⟩
  | .hbm, ⟨14, _⟩ => ⟨S4x1024x512, .f32⟩
  | .hbm, ⟨15, _⟩ => ⟨S_, .f32⟩
  | .hbm, ⟨16, _⟩ => ⟨S4x1024x88, .f32⟩
  | .hbm, ⟨17, _⟩ => ⟨S4x1024x3968, .f32⟩
  | .hbm, ⟨18, _⟩ => ⟨S4x1024x3968, .bf16⟩
  | _, _ => ⟨S4x1024x3880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== Proof.PleValue.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Ple

open Cert.Kernel3Ideal Cert.Kernel3Ideal.Gen

section Pure
open Cert.Reference3Ideal.Read

/-- One stored value of the kernel is the reference's at the row the block reads, whatever row that is. -/
theorem core (X : FVec Ideal S1024x1024 .f32) (Gn : FVec Ideal S1x1x1024 .f32) (Wg : FVec Ideal S1x1024x1024 .bf16)
    (Pe : FVec Ideal S1x1024x256 .f32) (Wp : FVec Ideal S1x256x1024 .bf16) (Fg : FVec Ideal S1x1024 .f32)
    (x : FVec Ideal S8x2048x1024 .f32) (p : FVec Ideal S4x8x2048x256 .f32) (gn : FVec Ideal S4x1024 .f32)
    (wg : FVec Ideal S4x1024x1024 .f32) (wp : FVec Ideal S4x256x1024 .f32) (fg : FVec Ideal S1024 .f32)
    (r : Fin 1024) (a : Fin 8) (b : Fin 2048) (l : Fin 1024)
    (hx : ∀ k : Fin 1024, X (ix2 r k) = x (ix3 a b k)) (hg : ∀ k : Fin 1024, Gn (ix3 0 0 k) = gn (ix2 3 k))
    (hw : ∀ k n : Fin 1024, Wg (ix3 0 k n) = wg (ix3 3 k n)) (hp : ∀ k : Fin 256, Pe (ix3 0 r k) = p (ix4 3 a b k))
    (hq : ∀ (k : Fin 256) (n : Fin 1024), Wp (ix3 0 k n) = wp (ix3 3 k n)) (hf : ∀ k : Fin 1024, Fg (ix2 0 k) = fg (ix1 k)) :
    k0_pay1 (F := Ideal) (k0_pay2 X Gn Wg Pe Wp) (k0_pay3 Fg) (k0_pay4 X Gn Wg Pe Wp) (ix2 r l)
    = val_main_v43 (F := Ideal) x p gn wg wp fg (ix3 a b l) := by
  pointwise [k0_pay1, k0_pay2, k0_pay3, k0_pay4, Ideal.logistic, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_v19, val_main_cst_2, val_main_v20, val_main_v21, val_main_cst_3, val_main_v22, val_main_v23, val_main_v24, val_main_v25, val_main_v26, val_main_v27, val_main_v28, val_main_v29, val_main_v30, val_main_v31, val_main_cst_4, val_main_v32, val_main_v33, val_main_cst_5, val_main_v34, val_main_v35, val_main_cst_6, val_main_v36, val_main_v37, val_main_v38, val_main_v39, val_main_v40, val_main_v41, val_main_v42, val_main_v43]
  simp only [hx, hg, hw, hp, hq, hf]

end Pure

variable (m : (ℓ : Loc nD τ sig) → Buf (Elt Ideal) ℓ)

/-- The gated embedding and the closing norm, as the reference states them, over the argument arrays. -/
abbrev target (c : Dev nD) : FVec Ideal S16384x1024 .f32 :=
  Cert.Reference3Ideal.Read.val_main_v44 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- Where each window's block stands at a grid point. -/
theorem idx : ∀ t : Fin cfg0.N, win0_0.index t = ![t.val, 0] ∧ win0_1.index t = ![3, t.val, 0] ∧ win0_2.index t = ![3, 0, 0]
    ∧ win0_3.index t = ![3, 0, 0] ∧ win0_4.index t = ![3, 0, 0] ∧ win0_5.index t = ![0, 0] ∧ win0_6.index t = ![t.val, 0] :=
  (by decide +kernel : ∀ t : Fin grid0.N, _)

/-- What a grid point stores at an index of its block is the reference's value where the block puts that index. -/
theorem point (c : Dev nD) (t : Fin cfg0.N) (y : S1024x1024.Idx) :
    k0_pay1 (F := Ideal) (k0_pay2 (iblk m c 0 t) (iblk m c 2 t) (iblk m c 3 t) (iblk m c 1 t) (iblk m c 4 t)) (k0_pay3 (iblk m c 5 t))
      (k0_pay4 (iblk m c 0 t) (iblk m c 2 t) (iblk m c 3 t) (iblk m c 1 t) (iblk m c 4 t)) y
    = target m c (((cfg0.win 6).blk t).view.emb y) := by
  have ht : t.val < 16 := lt_of_lt_of_eq t.isLt N_0
  idx_vars y
  rw [target, Cert.Reference3Ideal.Read.val_main_v44_apply]
  refine (core _ _ _ _ _ _ _ _ _ _ _ _ y0 ⟨(t.val * 1024 + y0.val) / 2048, by omega⟩ ⟨(t.val * 1024 + y0.val) % 2048, by omega⟩ y1
    ?_ ?_ ?_ ?_ ?_ ?_).trans (congrArg _ ?_)
  · intro k; blk_point [iblk, V, idx t]
  · intro k; blk_point [iblk, V, idx t]
  · intro k n; blk_point [iblk, V, idx t]
  · intro k; blk_point [iblk, V, idx t]
  · intro k n; blk_point [iblk, V, idx t]
  · intro k; blk_point [iblk, V, idx t]
  · blk_ext [idx t]

/-- The result array after the run is the reference's. -/
theorem final (c : Dev nD) : (dats m 0 c).arrAt 6 (cfgs 0).N = target m c := by
  refine (dats m 0 c).arrAt_eq_of_covers 6 _ (by decide +kernel) fun t _ y => ?_
  blk_simp
  rw [after0_6]
  frame_out
  exact point m c t y

end Cert.Kernel3Ideal.Ple

end
-- ==== Proof.FfnValue.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

section Pure
open Cert.Reference2Ideal.Read

/-- The normalised row the first point of a run keeps is the reference's normalised row. -/
theorem norm_at (X : FVec Ideal S1024x1024 .f32) (Gn : FVec Ideal S1x1x1024 .f32)
    (x : FVec Ideal S8x2048x1024 .f32) (gn : FVec Ideal S4x1024 .f32) (r : Fin 1024) (a : Fin 8) (b : Fin 2048) (k : Fin 1024)
    (hx : ∀ k : Fin 1024, X (ix2 r k) = x (ix3 a b k)) (hg : ∀ k : Fin 1024, Gn (ix3 0 0 k) = gn (ix2 0 k)) :
    k0_pay1 (F := Ideal) X Gn (ix2 r k) = val_main_v14 (F := Ideal) x gn (ix3 a b k) := by
  pointwise [k0_pay1, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  simp only [hx, hg]

/-- A gated hidden value as the reference has it, over its normalised rows. -/
theorem hidden_at (x : FVec Ideal S8x2048x1024 .f32) (gn : FVec Ideal S4x1024 .f32) (wi : FVec Ideal S4x1024x5632 .f32)
    (a : Fin 8) (b : Fin 2048) (f : Fin 2816) :
    val_main_v23 (F := Ideal) x gn wi (ix3 a b f)
    = ((∑ k : Fin 1024, val_main_v14 (F := Ideal) x gn (ix3 a b k) * wi (ix3 0 k ⟨f.val, by omega⟩))
        * Ideal.logistic (∑ k : Fin 1024, val_main_v14 (F := Ideal) x gn (ix3 a b k) * wi (ix3 0 k ⟨f.val, by omega⟩)))
      * ∑ k : Fin 1024, val_main_v14 (F := Ideal) x gn (ix3 a b k) * wi (ix3 0 k ⟨2816 + f.val, by omega⟩) := by
  pointwise [Ideal.logistic, val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23]

/-- One point adds to the accumulator the reference's hidden values of its tile against the tile's rows of the output weight. -/
theorem part_at (Xn : FVec Ideal S1024x1024 .bf16) (Wg Wu : FVec Ideal S1x1024x256 .bf16) (A : FVec Ideal S1024x1024 .f32)
    (Wo : FVec Ideal S1x256x1024 .bf16)
    (x : FVec Ideal S8x2048x1024 .f32) (gn : FVec Ideal S4x1024 .f32) (wi : FVec Ideal S4x1024x5632 .f32)
    (wo : FVec Ideal S4x2816x1024 .f32) (r : Fin 1024) (a : Fin 8) (b : Fin 2048) (s : Fin 11) (l : Fin 1024)
    (hn : ∀ k : Fin 1024, Xn (ix2 r k) = val_main_v14 (F := Ideal) x gn (ix3 a b k))
    (hg : ∀ (k : Fin 1024) (f : Fin 256), Wg (ix3 0 k f) = wi (ix3 0 k ⟨s.val * 256 + f.val, by omega⟩))
    (hu : ∀ (k : Fin 1024) (f : Fin 256), Wu (ix3 0 k f) = wi (ix3 0 k ⟨2816 + (s.val * 256 + f.val), by omega⟩))
    (ho : ∀ (f : Fin 256) (n : Fin 1024), Wo (ix3 0 f n) = wo (ix3 0 ⟨s.val * 256 + f.val, by omega⟩ n)) :
    k0_pay3 (F := Ideal) Xn Wg Wu A Wo (ix2 r l)
    = A (ix2 r l) + ∑ f : Fin 256, val_main_v23 (F := Ideal) x gn wi (ix3 a b ⟨s.val * 256 + f.val, by omega⟩)
        * wo (ix3 0 ⟨s.val * 256 + f.val, by omega⟩ l) := by
  simp only [hidden_at]
  pointwise [k0_pay3]
  simp only [hn, hg, hu, ho]

/-- The reference's result over its hidden values. -/
theorem result_at (x : FVec Ideal S8x2048x1024 .f32) (gn : FVec Ideal S4x1024 .f32) (wi : FVec Ideal S4x1024x5632 .f32)
    (wo : FVec Ideal S4x2816x1024 .f32) (a : Fin 8) (b : Fin 2048) (l : Fin 1024) :
    val_main_v27 (F := Ideal) x gn wi wo (ix3 a b l)
    = x (ix3 a b l) + Ideal.ofBits .f32 0x3F000000#32
        * ∑ f : Fin 2816, val_main_v23 (F := Ideal) x gn wi (ix3 a b f) * wo (ix3 0 f l) := by
  pointwise [val_main_v24, val_main_cst_2, val_main_v25, val_main_v26, val_main_v27, val_main_v17, val_main_v18]

/-- What the last point of a run stores. -/
theorem store_at (X A : FVec Ideal S1024x1024 .f32) (j : S1024x1024.Idx) :
    k0_pay4 (F := Ideal) X A j = X j + Ideal.ofBits .f32 0x3F000000#32 * A j := by
  pointwise [k0_pay4]

theorem zero_at (j : S1024x1024.Idx) : k0_pay2 (F := Ideal) j = 0 := by pointwise [k0_pay2]

end Pure

variable (m : (ℓ : Loc nD τ sig) → Buf (Elt Ideal) ℓ)

/-- The layer's first half-step, as the reference states it, over the argument arrays. -/
abbrev target (c : Dev nD) : FVec Ideal S16384x1024 .f32 :=
  Cert.Reference2Ideal.Read.val_main_v28 (F := Ideal) (m ((c : Thread nD τ).loc main_arg0)) (m ((c : Thread nD τ).loc main_arg1))
    (m ((c : Thread nD τ).loc main_arg2)) (m ((c : Thread nD τ).loc main_arg3))

/-- The reference's normalised rows, over the argument arrays. -/
abbrev rows (c : Dev nD) : FVec Ideal S8x2048x1024 .f32 :=
  Cert.Reference2Ideal.Read.val_main_v14 (F := Ideal) (m ((c : Thread nD τ).loc main_arg0)) (m ((c : Thread nD τ).loc main_arg1))

/-- Where each window's block stands at a grid point. -/
theorem idx : ∀ t : Fin cfg0.N, win0_0.index t = ![t.val / 11, 0] ∧ win0_1.index t = ![0, 0, 0]
    ∧ win0_2.index t = ![0, 0, t.val % 11] ∧ win0_3.index t = ![0, 0, t.val % 11 + 11] ∧ win0_4.index t = ![0, t.val % 11, 0]
    ∧ win0_5.index t = ![t.val / 11, 0] :=
  (by decide +kernel : ∀ t : Fin grid0.N, _)

theorem lt_points (t : Fin cfg0.N) : t.val < 176 := lt_of_lt_of_eq t.isLt N_0

/-- The batch and the position of the row that row `r` of point `t`'s block is. -/
abbrev bat (n : ℕ) (hn : n < 176) (r : Fin 1024) : Fin 8 := ⟨(n / 11 * 1024 + r.val) / 2048, by omega⟩
abbrev pos (n : ℕ) (r : Fin 1024) : Fin 2048 := ⟨(n / 11 * 1024 + r.val) % 2048, by omega⟩

theorem x_at (c : Dev nD) (t : Fin cfg0.N) (r k : Fin 1024) :
    iblk m c 0 t (ix2 r k) = m ((c : Thread nD τ).loc main_arg0) (ix3 (bat t.val (lt_points t) r) (pos t.val r) k) := by
  have ht := lt_points t
  blk_point [iblk, V, idx t]

theorem gain_at (c : Dev nD) (t : Fin cfg0.N) (k : Fin 1024) :
    iblk m c 1 t (ix3 0 0 k) = m ((c : Thread nD τ).loc main_arg1) (ix2 0 k) := by
  blk_point [iblk, V, idx t]

/-- What the run keeps as its normalised rows after any of its points: the rows of the point's block. -/
theorem kept (c : Dev nD) : ∀ (n : ℕ) (hn : n < cfg0.N) (r k : Fin 1024),
    (outsAt0 m c n hn).2.1 (ix2 r k)
    = rows m c (ix3 (bat n (lt_points ⟨n, hn⟩) r) (pos n r) k) := by
  intro n
  induction n with
  | zero =>
    intro hn r k
    rw [outsAt0_A m c ⟨0, hn⟩ rfl (by simp)]
    frame_out
    exact norm_at _ _ _ _ r _ _ k (fun k => x_at m c ⟨0, hn⟩ r k) (fun k => gain_at m c ⟨0, hn⟩ k)
  | succ n ih =>
    intro hn r k
    by_cases h0 : (n + 1) % 11 = 0
    · rw [outsAt0_A m c ⟨n + 1, hn⟩ h0 (by dsimp only; omega)]
      frame_out
      exact norm_at _ _ _ _ r _ _ k (fun k => x_at m c ⟨n + 1, hn⟩ r k) (fun k => gain_at m c ⟨n + 1, hn⟩ k)
    · have hq : (n + 1) / 11 = n / 11 := by omega
      have e : (outsAt0 m c (n + 1) hn).2.1 = (outsAt0 m c n (Nat.lt_of_succ_lt hn)).2.1 := by
        by_cases h1 : (n + 1) % 11 = 10
        · rw [outsAt0_C m c ⟨n + 1, hn⟩ h0 h1]
          rfl
        · rw [outsAt0_B m c ⟨n + 1, hn⟩ h0 h1]
          rfl
      rw [e, ih (Nat.lt_of_succ_lt hn) r k]
      simp only [bat, pos, hq]

/-- What one point adds to the accumulator at an index. -/
def part (c : Dev nD) (t : Fin cfg0.N) (j : S1024x1024.Idx) : EReal :=
  ∑ f : Fin 256, Cert.Reference2Ideal.Read.val_main_v23 (F := Ideal) (m ((c : Thread nD τ).loc main_arg0))
      (m ((c : Thread nD τ).loc main_arg1)) (m ((c : Thread nD τ).loc main_arg2))
      (ix3 (bat t.val (lt_points t) (j 0)) (pos t.val (j 0)) ⟨t.val % 11 * 256 + f.val, by omega⟩)
    * (show FVec Ideal S4x2816x1024 .f32 from m ((c : Thread nD τ).loc main_arg3)) (ix3 0 ⟨t.val % 11 * 256 + f.val, by omega⟩ (j 1))

/-- The accumulating payload at a point whose kept rows are the reference's. -/
theorem step (c : Dev nD) (t : Fin cfg0.N) (Xn : FVec Ideal S1024x1024 .bf16) (A : FVec Ideal S1024x1024 .f32) (j : S1024x1024.Idx)
    (hn : ∀ r k : Fin 1024, Xn (ix2 r k) = rows m c (ix3 (bat t.val (lt_points t) r) (pos t.val r) k)) :
    k0_pay3 (F := Ideal) Xn (iblk m c 2 t) (iblk m c 3 t) A (iblk m c 4 t) j = A j + part m c t j := by
  have ht := lt_points t
  idx_vars j
  refine part_at Xn _ _ A _ _ _ _ _ j0 _ _ ⟨t.val % 11, by omega⟩ j1 (fun k => hn j0 k) ?_ ?_ ?_
  · intro k f; blk_point [iblk, V, idx t]
  · intro k f; blk_point [iblk, V, idx t]
  · intro k f; blk_point [iblk, V, idx t]

/-- The kept rows a later point of a run reads are its own block's. -/
theorem kept_before (c : Dev nD) (t : Fin cfg0.N) (h : ¬t.val % 11 = 0) (r k : Fin 1024) :
    (outsAt0 m c (t.val - 1) (Nat.lt_of_le_of_lt (Nat.sub_le _ _) t.isLt)).2.1 (ix2 r k)
    = rows m c (ix3 (bat t.val (lt_points t) r) (pos t.val r) k) := by
  have hq : (t.val - 1) / 11 = t.val / 11 := by omega
  rw [kept m c (t.val - 1) _ r k]
  simp only [bat, pos, hq]

theorem kept_first (c : Dev nD) (t : Fin cfg0.N) (r k : Fin 1024) :
    k0_pay1 (F := Ideal) (iblk m c 0 t) (iblk m c 1 t) (ix2 r k) = rows m c (ix3 (bat t.val (lt_points t) r) (pos t.val r) k) :=
  norm_at _ _ _ _ r _ _ k (fun k => x_at m c t r k) (fun k => gain_at m c t k)

/-- The accumulator after the first point of a run. -/
theorem acc_first (c : Dev nD) (t : Fin cfg0.N) (h : t.val % 11 = 0) (j : S1024x1024.Idx) :
    (outsAt0 m c t.val t.isLt).2.2 j = 0 + part m c t j := by
  rw [outsAt0_A m c t h (by omega)]
  frame_out
  rw [step m c t _ _ j (kept_first m c t), zero_at]

/-- The accumulator after a later point of a run. -/
theorem acc_mid (c : Dev nD) (t : Fin cfg0.N) (h : ¬t.val % 11 = 0) (h1 : ¬t.val % 11 = 10) (j : S1024x1024.Idx) :
    (outsAt0 m c t.val t.isLt).2.2 j
    = (outsAt0 m c (t.val - 1) (Nat.lt_of_le_of_lt (Nat.sub_le _ _) t.isLt)).2.2 j + part m c t j := by
  rw [outsAt0_B m c t h h1]
  frame_out
  simp only [read_unread_whole]
  exact step m c t _ _ j (kept_before m c t h)

/-- The accumulator after the last point of a run. -/
theorem acc_end (c : Dev nD) (t : Fin cfg0.N) (h : ¬t.val % 11 = 0) (h1 : t.val % 11 = 10) (j : S1024x1024.Idx) :
    (outsAt0 m c t.val t.isLt).2.2 j
    = (outsAt0 m c (t.val - 1) (Nat.lt_of_le_of_lt (Nat.sub_le _ _) t.isLt)).2.2 j + part m c t j := by
  rw [outsAt0_C m c t h h1]
  frame_out
  simp only [read_unread_whole]
  exact step m c t _ _ j (kept_before m c t h)

/-- The accumulator at the end of a run is the sum of the run's parts. -/
theorem acc_last (c : Dev nD) (t : Fin cfg0.N) (hf : t.val % 11 = 10) (j : S1024x1024.Idx) :
    (outsAt0 m c t.val t.isLt).2.2 j
    = ∑ s : Fin 11, part m c ⟨11 * (t.val / 11) + s.val, Pipeline.run_point_lt_of_flush t hf s⟩ j := by
  rw [Pipeline.eq_sum_fin_of_reset_step_apply_of_flush (fun n h => (outsAt0 m c n h).2.2) 11 (fun _ => (0 : EReal)) (fun t j => part m c t j)
    (fun t h j => acc_first m c t h j)
    (fun t h j => by
      by_cases h1 : t.val % 11 = 10
      · exact acc_end m c t h h1 j
      · exact acc_mid m c t h h1 j)
    t hf j, zero_add]

/-- What the last point of a run stores, over the accumulator it leaves. -/
theorem out_last (c : Dev nD) (t : Fin cfg0.N) (h : ¬t.val % 11 = 0) (h1 : t.val % 11 = 10) :
    (outsAt0 m c t.val t.isLt).1 = k0_pay4 (F := Ideal) (iblk m c 0 t) (outsAt0 m c t.val t.isLt).2.2 := by
  rw [outsAt0_C m c t h h1]
  frame_out

/-- The run's parts together are the sum over the whole hidden axis. -/
theorem parts_sum (c : Dev nD) (t : Fin cfg0.N) (h1 : t.val % 11 = 10) (j : S1024x1024.Idx) :
    (∑ s : Fin 11, part m c ⟨11 * (t.val / 11) + s.val, Pipeline.run_point_lt_of_flush t h1 s⟩ j)
    = ∑ f : Fin 2816, Cert.Reference2Ideal.Read.val_main_v23 (F := Ideal) (m ((c : Thread nD τ).loc main_arg0))
        (m ((c : Thread nD τ).loc main_arg1)) (m ((c : Thread nD τ).loc main_arg2))
        (ix3 (bat t.val (lt_points t) (j 0)) (pos t.val (j 0)) f)
      * (show FVec Ideal S4x2816x1024 .f32 from m ((c : Thread nD τ).loc main_arg3)) (ix3 0 f (j 1)) := by
  refine Fin.sum_mul_add_congr fun s k hl => ?_
  have e1 : (11 * (t.val / 11) + s.val) / 11 = t.val / 11 := by omega
  have e2 : (11 * (t.val / 11) + s.val) % 11 = s.val := by omega
  simp only [bat, pos, e1, e2]

/-- The stored block at an index. -/
theorem point (c : Dev nD) (t : Fin cfg0.N) (h1 : t.val % 11 = 10) (y : S1024x1024.Idx) :
    (outsAt0 m c t.val t.isLt).1 y = target m c (((cfg0.win 5).blk t).view.emb y) := by
  have ht := lt_points t
  rw [out_last m c t (by omega) h1, store_at, acc_last m c t h1, parts_sum m c t h1]
  idx_vars y
  rw [x_at, target, Cert.Reference2Ideal.Read.val_main_v28_apply]
  refine (result_at _ _ _ _ (bat t.val ht y0) (pos t.val y0) y1).symm.trans (congrArg _ ?_)
  blk_ext [idx t]

/-- The result array after the run is the reference's. -/
theorem final (c : Dev nD) : (dats m 0 c).arrAt 5 (cfgs 0).N = target m c := by
  refine (dats m 0 c).arrAt_eq_of_covers 5 _ (by decide +kernel) fun t hf y => ?_
  blk_simp
  rw [after0_5]
  exact point m c t ((flush0_5 t).mp hf) y

end Cert.Kernel2Ideal.Ffn

end
-- ==== Proof.MixerKeep.lean ====
module

public import proofs.«01_k».proof.Proof.Gen.ReferenceIdeal.Run
public import Idealize.ShloMosaic.Lib.Quiescent

@[expose] public section

set_option maxRecDepth 100000

noncomputable section

/-! The mixer's reference: what its run leaves alone. No stretch before, in or after the loop writes an argument. -/

open Idealize.ShloMosaic Idealize.ShloMosaic.TcCoe Idealize.SL.Sem Idealize.ShloMosaic.StableHlo

namespace Cert.ReferenceIdeal.Keep

open Cert.ReferenceIdeal Cert.ReferenceIdeal.Gen Cert.ReferenceIdeal.Value

variable {F : FTy → Type} [FloatOps F]

/-- What each operation of `hostOps0_13` writes, in order. -/
abbrev tail13 : List (Ref sig .tc) := [main_v105, main_v106, main_v107, main_v108, main_v109, main_v110, main_v111, main_v112, main_v113, main_v114, main_v115, main_v116, main_v117, main_v118, main_v119]
theorem tail13_writes : (hostOps0_13 : List (HloOp τ sig (Elt F))).Forall fun op => op.writes ⊆ (tail13.map (Proc.devRef (τ := τ) .tc)).toFinset :=
  forall_writes_sub_of_map rfl
/-- What each operation of `hostOps0_14` writes, in order. -/
abbrev tail14 : List (Ref sig .tc) := [main_call9_v0, main_call9_v1, main_call9_cst, main_call9_v2, main_call9_v3, main_call9_cst_0, main_call9_v4, main_call9_v5, main_v120]
theorem tail14_writes : (hostOps0_14 : List (HloOp τ sig (Elt F))).Forall fun op => op.writes ⊆ (tail14.map (Proc.devRef (τ := τ) .tc)).toFinset :=
  forall_writes_sub_of_map rfl
/-- What each operation of `hostOps0_15` writes, in order. -/
abbrev tail15 : List (Ref sig .tc) := [main_v121, main_v122, main_v123, main_v124, main_cst_5, main_v125, main_v126, main_cst_6, main_v127, main_v128, main_cst_7, main_v129, main_v130, main_v131, main_v132, main_v133, main_v134, main_v135, main_v136, main_v137, main_v138, main_v139]
theorem tail15_writes : (hostOps0_15 : List (HloOp τ sig (Elt F))).Forall fun op => op.writes ⊆ (tail15.map (Proc.devRef (τ := τ) .tc)).toFinset :=
  forall_writes_sub_of_map rfl

/-- Every reference the program writes. -/
abbrev written : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ condOps_W ++ while0Ops0_W ++ while0Ops0_1_W ++ while0Ops0_2_W ++ while0Ops0_3_W ++ while0Ops0_4_W ++ tail13 ++ tail14 ++ tail15

/-- The arguments. -/
abbrev arguments : List (Ref sig .tc) := [main_arg0, main_arg1, main_arg2, main_arg3, main_arg4, main_arg5, main_arg6, main_arg7, main_arg8, main_arg9]

theorem untouched : ∀ r ∈ arguments, r ∉ written := by decide +kernel

variable (m : (ℓ : Loc nD τ sig) → Buf (Elt F) ℓ) (c : Dev nD)

/-- What no stretch writes is, at the loop's entry, as at the start. -/
theorem entry_keep (r : Ref sig .tc) (h : r ∉ written) : entryContents preI m c (Proc.devRef .tc r) = m ((c.tc : Thread nD τ).loc r) := by
  simp only [written, List.mem_append, not_or] at h
  obtain ⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩ := h
  simp only [entryContents, afterL_cons, afterL_nil]
  rw [after_of_writes_sub hostOps0_12 _ hostOps0_12_writes h12]
  rw [after_of_writes_sub hostOps0_11 _ hostOps0_11_writes h11]
  rw [after_of_writes_sub hostOps0_10 _ hostOps0_10_writes h10]
  rw [after_of_writes_sub hostOps0_9 _ hostOps0_9_writes h9]
  rw [after_of_writes_sub hostOps0_8 _ hostOps0_8_writes h8]
  rw [after_of_writes_sub hostOps0_7 _ hostOps0_7_writes h7]
  rw [after_of_writes_sub hostOps0_6 _ hostOps0_6_writes h6]
  rw [after_of_writes_sub hostOps0_5 _ hostOps0_5_writes h5]
  rw [after_of_writes_sub hostOps0_4 _ hostOps0_4_writes h4]
  rw [after_of_writes_sub hostOps0_3 _ hostOps0_3_writes h3]
  rw [after_of_writes_sub hostOps0_2 _ hostOps0_2_writes h2]
  rw [after_of_writes_sub hostOps0_1 _ hostOps0_1_writes h1]
  rw [after_of_writes_sub hostOps0 _ hostOps0_writes h0]

/-- Nor does any trip. -/
theorem trip_keep (r : Ref sig .tc) (h : r ∉ written) (k : ℕ) : atK m k c (Proc.devRef .tc r) = entryContents preI m c (Proc.devRef .tc r) := by
  simp only [written, List.mem_append, not_or] at h
  obtain ⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩ := h
  induction k with
  | zero => rfl
  | succ k ih =>
    rw [show atK m (k + 1) c = afterL bodyI (after condOps (atK m k c)) from rfl]
    simp only [afterL_cons, afterL_nil]
    rw [after_of_writes_sub while0Ops0_4 _ while0Ops0_4_writes h18]
    rw [after_of_writes_sub while0Ops0_3 _ while0Ops0_3_writes h17]
    rw [after_of_writes_sub while0Ops0_2 _ while0Ops0_2_writes h16]
    rw [after_of_writes_sub while0Ops0_1 _ while0Ops0_1_writes h15]
    rw [after_of_writes_sub while0Ops0 _ while0Ops0_writes h14]
    rw [after_of_writes_sub condOps _ condOps_writes h13]
    exact ih

/-- Nor anything after it: what nothing writes ends as it began. -/
theorem final_keep (r : Ref sig .tc) (h : r ∉ written) :
    finalContents condOps preI bodyI postI 16 m c (Proc.devRef .tc r) = m ((c.tc : Thread nD τ).loc r) := by
  have h' := h
  simp only [written, List.mem_append, not_or] at h'
  obtain ⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩ := h'
  simp only [finalContents, afterL_cons, afterL_nil]
  rw [after_of_writes_sub hostOps0_15 _ tail15_writes h21]
  rw [after_of_writes_sub hostOps0_14 _ tail14_writes h20]
  rw [after_of_writes_sub hostOps0_13 _ tail13_writes h19]
  rw [after_of_writes_sub condOps _ condOps_writes h13]
  exact (trip_keep m c r h 16).trans (entry_keep m c r h)

/-- The run leaves the arguments as they were, and every counter at zero. -/
theorem frame (ρ : Dev nD → PrngReg) :
    θ_run defs (onTc (τ := τ) (main (F := F))) ⟨m, fun _ => 0, ρ⟩ (fun r => (∀ c : Dev nD, ∀ b ∈ arguments,
      r.2.mem ((c.tc : Thread nD τ).loc b) = m ((c.tc : Thread nD τ).loc b)) ∧ r.2.sem = fun _ => 0) :=
  (θ_run defs _ _).mono (fun r h => ⟨fun c b hb => (h c b ((by decide +kernel :
      ∀ b ∈ arguments, (Proc.devRef .tc b : DevRef τ sig).isScoped = false) b hb)).trans (final_keep m c b (untouched b hb)),
    sem_eq_zero_of_no_sems (by decide) r.2⟩) (run_fold m ρ)

end Cert.ReferenceIdeal.Keep

end
-- ==== Proof.InValue.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Inproj

open Cert.Kernel5Ideal Cert.Kernel5Ideal.Gen

section Pure
open Cert.Reference5Ideal.Read

/-- The normed row the kernel multiplies is the reference's. -/
theorem norm_at (X : FVec Ideal S512x1024 .f32) (Gn : FVec Ideal S1x1x1024 .f32) (x : FVec Ideal S8x2048x1024 .f32)
    (g : FVec Ideal S4x1024 .f32) (r : Fin 512) (a : Fin 8) (b : Fin 2048) (l : Fin 1024)
    (hx : ∀ k : Fin 1024, X (ix2 r k) = x (ix3 a b k)) (hg : ∀ k : Fin 1024, Gn (ix3 0 0 k) = g (ix2 0 k)) :
    k0_pay4 (F := Ideal) X Gn (ix2 r l) = val_main_v14 (F := Ideal) x g (ix3 a b l) := by
  pointwise [k0_pay4, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  simp only [hx, hg]

/-- One entry of the reference's product of the normed rows with the columns. -/
theorem ref_at (x : FVec Ideal S8x2048x1024 .f32) (g : FVec Ideal S4x1024 .f32) (w : FVec Ideal S4x1024x3968 .bf16)
    (a : Fin 8) (b : Fin 2048) (l : Fin 3968) :
    val_main_v18 (F := Ideal) x g w (ix3 a b l)
    = ∑ k : Fin 1024, val_main_v14 (F := Ideal) x g (ix3 a b k) * w (ix3 0 k l) := by
  pointwise [val_main_v15, val_main_v16, val_main_v17, val_main_v18]

/-- One entry of a product the kernel stores. -/
theorem pay1_at (U : FVec Ideal S512x1024 .bf16) (W : FVec Ideal S1x1024x128 .bf16) (r : Fin 512) (l : Fin 128) :
    k0_pay1 (F := Ideal) U W (ix2 r l) = ∑ k : Fin 1024, U (ix2 r k) * W (ix3 0 k l) := by
  pointwise [k0_pay1]

/-- One entry of a product the kernel stores. -/
theorem pay2_at (U : FVec Ideal S512x1024 .bf16) (W : FVec Ideal S1x1024x1024 .bf16) (r : Fin 512) (l : Fin 1024) :
    k0_pay2 (F := Ideal) U W (ix2 r l) = ∑ k : Fin 1024, U (ix2 r k) * W (ix3 0 k l) := by
  pointwise [k0_pay2]

/-- One entry of a product the kernel stores. -/
theorem pay3_at (U : FVec Ideal S512x1024 .bf16) (W : FVec Ideal S1x1024x1536 .bf16) (r : Fin 512) (l : Fin 1536) :
    k0_pay3 (F := Ideal) U W (ix2 r l) = ∑ k : Fin 1024, U (ix2 r k) * W (ix3 0 k l) := by
  pointwise [k0_pay3]

/-- One entry of a product the kernel stores. -/
theorem pay7_at (U : FVec Ideal S512x1024 .bf16) (W : FVec Ideal S1x1024x128 .bf16) (r : Fin 512) (l : Fin 128) :
    k0_pay7 (F := Ideal) U W (ix2 r l) = ∑ k : Fin 1024, U (ix2 r k) * W (ix3 0 k l) := by
  pointwise [k0_pay7]

/-- One entry of a product the kernel stores. -/
theorem pay8_at (U : FVec Ideal S512x1024 .bf16) (W : FVec Ideal S1x1024x512 .bf16) (r : Fin 512) (l : Fin 512) :
    k0_pay8 (F := Ideal) U W (ix2 r l) = ∑ k : Fin 1024, U (ix2 r k) * W (ix3 0 k l) := by
  pointwise [k0_pay8]

/-- One entry of a product the kernel stores. -/
theorem pay5_at (X : FVec Ideal S512x1024 .f32) (Gn : FVec Ideal S1x1x1024 .f32) (W : FVec Ideal S1x1024x512 .bf16) (r : Fin 512) (l : Fin 512) :
    k0_pay5 (F := Ideal) X Gn W (ix2 r l) = ∑ k : Fin 1024, k0_pay4 (F := Ideal) X Gn (ix2 r k) * W (ix3 0 k l) := by
  pointwise [k0_pay5]

/-- One entry of a product the kernel stores. -/
theorem pay6_at (X : FVec Ideal S512x1024 .f32) (Gn : FVec Ideal S1x1x1024 .f32) (W : FVec Ideal S1x1024x128 .bf16) (r : Fin 512) (l : Fin 128) :
    k0_pay6 (F := Ideal) X Gn W (ix2 r l) = ∑ k : Fin 1024, k0_pay4 (F := Ideal) X Gn (ix2 r k) * W (ix3 0 k l) := by
  pointwise [k0_pay6]

end Pure

variable (m : (ℓ : Loc nD τ sig) → Buf (Elt Ideal) ℓ)

/-- Where each window's block stands at a grid point. -/
theorem idx : ∀ t : Fin cfg0.N, win0_0.index t = ![t.val, 0] ∧ win0_1.index t = ![0, 0, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- A row of the block the kernel normed, against any column read from the weight, is the reference's product there. -/
theorem entry (c : Dev nD) (t : Fin cfg0.N) (ht : t.val < 32) (r : Fin 512) (l : Fin 3968) (f : Fin 1024 → EReal)
    (hf : ∀ k : Fin 1024, f k = (show FVec Ideal S4x1024x3968 .bf16 from m ((c : Thread nD τ).loc main_arg2)) (ix3 0 k l)) :
    ∑ k : Fin 1024, k0_pay4 (F := Ideal) (iblk m c 0 t) (iblk m c 1 t) (ix2 r k) * f k
    = Cert.Reference5Ideal.Read.val_main_v18 (F := Ideal) (m ((c : Thread nD τ).loc main_arg0)) (m ((c : Thread nD τ).loc main_arg1)) (m ((c : Thread nD τ).loc main_arg2)) (ix3 ⟨(t.val * 512 + r.val) / 2048, by omega⟩ ⟨(t.val * 512 + r.val) % 2048, by omega⟩ l) := by
  rw [ref_at]
  refine Finset.sum_congr rfl fun k _ => ?_
  rw [hf k, norm_at (iblk m c 0 t) (iblk m c 1 t) (m ((c : Thread nD τ).loc main_arg0)) (m ((c : Thread nD τ).loc main_arg1)) r
    ⟨(t.val * 512 + r.val) / 2048, by omega⟩ ⟨(t.val * 512 + r.val) % 2048, by omega⟩ k ?_ ?_]
  · intro k; blk_point [iblk, V, idx t]
  · intro k; blk_point [iblk, V, idx t]

/-- The queries. -/
theorem final3 (c : Dev nD) : (dats m 0 c).arrAt 3 (cfgs 0).N = Cert.Reference5Ideal.Read.val_main_v26 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 32 := lt_of_lt_of_eq t.isLt N_0
  blk_simp
  rw [after0_3]
  unfold outsAt0
  frame_out
  idx_vars y
  rw [pay5_at, Cert.Reference5Ideal.Read.val_main_v26_apply, Cert.Reference5Ideal.Read.val_main_v19_apply]
  refine (entry m c t ht y0 ⟨0 + y1.val, by omega⟩ _ ?_).trans (congrArg _ ?_)
  · intro k; blk_point [iblk, V, idx t]
  · blk_ext [idx t]

/-- The keys and values the attention windows read. -/
theorem final6 (c : Dev nD) : (dats m 0 c).arrAt 6 (cfgs 0).N = Cert.Reference5Ideal.Read.val_main_v30 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  have ht : t.val < 32 := lt_of_lt_of_eq t.isLt N_0
  blk_simp
  rw [after0_6]
  unfold outsAt0
  frame_out
  idx_vars y
  rw [pay8_at, Cert.Reference5Ideal.Read.val_main_v30_apply, Cert.Reference5Ideal.Read.val_main_v29_apply, Cert.Reference5Ideal.Read.val_main_v22_apply]
  refine (entry m c t ht y0 ⟨768 + y1.val, by omega⟩ _ ?_).trans (congrArg _ ?_)
  · intro k; blk_point [iblk, V, idx t]
  · blk_ext [idx t]

/-- The gates and step sizes. -/
theorem final7 (c : Dev nD) : (dats m 0 c).arrAt 7 (cfgs 0).N = Cert.Reference5Ideal.Read.val_main_v31 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  have ht : t.val < 32 := lt_of_lt_of_eq t.isLt N_0
  blk_simp
  rw [after0_7]
  unfold outsAt0
  frame_out
  idx_vars y
  rw [pay1_at, Cert.Reference5Ideal.Read.val_main_v31_apply, Cert.Reference5Ideal.Read.val_main_v23_apply]
  refine (entry m c t ht y0 ⟨1280 + y1.val, by omega⟩ _ ?_).trans (congrArg _ ?_)
  · intro k; blk_point [iblk, V, idx t]
  · blk_ext [idx t]

/-- The gate of the state-space half. -/
theorem final8 (c : Dev nD) : (dats m 0 c).arrAt 8 (cfgs 0).N = Cert.Reference5Ideal.Read.val_main_v32 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  have ht : t.val < 32 := lt_of_lt_of_eq t.isLt N_0
  blk_simp
  rw [after0_8]
  unfold outsAt0
  frame_out
  idx_vars y
  rw [pay2_at, Cert.Reference5Ideal.Read.val_main_v32_apply, Cert.Reference5Ideal.Read.val_main_v24_apply]
  refine (entry m c t ht y0 ⟨1408 + y1.val, by omega⟩ _ ?_).trans (congrArg _ ?_)
  · intro k; blk_point [iblk, V, idx t]
  · blk_ext [idx t]

/-- The convolution's channels. -/
theorem final9 (c : Dev nD) : (dats m 0 c).arrAt 9 (cfgs 0).N = Cert.Reference5Ideal.Read.val_main_v33 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  have ht : t.val < 32 := lt_of_lt_of_eq t.isLt N_0
  blk_simp
  rw [after0_9]
  unfold outsAt0
  frame_out
  idx_vars y
  rw [pay3_at, Cert.Reference5Ideal.Read.val_main_v33_apply, Cert.Reference5Ideal.Read.val_main_v25_apply]
  refine (entry m c t ht y0 ⟨2432 + y1.val, by omega⟩ _ ?_).trans (congrArg _ ?_)
  · intro k; blk_point [iblk, V, idx t]
  · blk_ext [idx t]

/-- A strided load of what one store over the whole buffer left reads the payload at the load's places. -/
theorem read_fill {sig : RefSig} {κ : Kind} {sp : Space} {s : Shape} {e : EltTy} {Val : EltTy → Type}
    [∀ e, Nonempty (Val e)] (v : View sig κ sp s e) {off : Fin s.rank → ℕ} (inb : ∀ a, off a + s.size a ≤ s.size a) (Z : s.Idx → Val e)
    (L : List (View.Piece Val s e)) (B : LoadRect s) (h : ∀ a, off a = 0) :
    v.readCov (⟨Rect.unit off (no_index s.size) inb, Z⟩ :: L) B = fun j => Z (B.idx j) := by
  rw [View.readCov_eq_canon', View.canon_cons_unit_lit inb Z L h]

/-- The keys to be compressed, sixteen tokens to a row. -/
theorem point4 (c : Dev nD) (t : Fin cfg0.N) (ht : t.val < 32) (i : S512x128.Idx) (y : S32x2048.Idx)
    (h0 : (i 0 : ℕ) = 16 * (y 0 : ℕ) + (y 1 : ℕ) / 128) (h1 : (i 1 : ℕ) = (y 1 : ℕ) % 128) :
    k0_pay6 (F := Ideal) (iblk m c 0 t) (iblk m c 1 t) (View.ld (iblk m c 2 t) (Rect.unit ![0, 0, 512] ![1, 1024, 128] inb_S1x1024x3968_S1x1024x128_0_0_512)) i = Cert.Reference5Ideal.Read.val_main_v27 (F := Ideal) (m ((c : Thread nD τ).loc main_arg0)) (m ((c : Thread nD τ).loc main_arg1)) (m ((c : Thread nD τ).loc main_arg2)) (((cfg0.win 4).blk t).view.emb y) := by
  idx_vars i
  idx_vars y
  rw [pay6_at, Cert.Reference5Ideal.Read.val_main_v27_apply, Cert.Reference5Ideal.Read.val_main_v20_apply]
  refine (entry m c t ht i0 ⟨512 + i1.val, by omega⟩ _ ?_).trans (congrArg _ ?_)
  · intro k; blk_point [iblk, V, idx t]
  · blk_ext [idx t, h0, h1]

set_option maxHeartbeats 4000000 in
/-- The keys to be compressed, sixteen tokens to a row. -/
theorem final4 (c : Dev nD) : (dats m 0 c).arrAt 4 (cfgs 0).N = Cert.Reference5Ideal.Read.val_main_v27 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  have ht : t.val < 32 := lt_of_lt_of_eq t.isLt N_0
  blk_simp
  rw [after0_4]
  unfold outsAt0
  frame_out
  obtain_idx i : S512x128 := [16 * (y 0 : ℕ) + (y 1 : ℕ) / 128, (y 1 : ℕ) % 128] with hi
  refine Eq.trans (b := k0_pay6 (F := Ideal) (iblk m c 0 t) (iblk m c 1 t) (View.ld (iblk m c 2 t) (Rect.unit ![0, 0, 512] ![1, 1024, 128] inb_S1x1024x3968_S1x1024x128_0_0_512)) i) ?_ (point4 m c t ht i y hi0 hi1)
  generalize k0_pay6 (F := Ideal) (iblk m c 0 t) (iblk m c 1 t) (View.ld (iblk m c 2 t) (Rect.unit ![0, 0, 512] ![1, 1024, 128] inb_S1x1024x3968_S1x1024x128_0_0_512)) = Z
  canon_tiles x h
  all_goals (rw [read_fill _ _ _ _ _ (by decide)]; dsimp only; pointwise; blk_ext [hi0, hi1, h0, h1])

/-- The values to be compressed, sixteen tokens to a row. -/
theorem point5 (c : Dev nD) (t : Fin cfg0.N) (ht : t.val < 32) (i : S512x128.Idx) (y : S32x2048.Idx)
    (h0 : (i 0 : ℕ) = 16 * (y 0 : ℕ) + (y 1 : ℕ) / 128) (h1 : (i 1 : ℕ) = (y 1 : ℕ) % 128) :
    k0_pay7 (F := Ideal) (k0_pay4 (F := Ideal) (iblk m c 0 t) (iblk m c 1 t)) (View.ld (iblk m c 2 t) (Rect.unit ![0, 0, 640] ![1, 1024, 128] inb_S1x1024x3968_S1x1024x128_0_0_640)) i = Cert.Reference5Ideal.Read.val_main_v28 (F := Ideal) (m ((c : Thread nD τ).loc main_arg0)) (m ((c : Thread nD τ).loc main_arg1)) (m ((c : Thread nD τ).loc main_arg2)) (((cfg0.win 5).blk t).view.emb y) := by
  idx_vars i
  idx_vars y
  rw [pay7_at, Cert.Reference5Ideal.Read.val_main_v28_apply, Cert.Reference5Ideal.Read.val_main_v21_apply]
  refine (entry m c t ht i0 ⟨640 + i1.val, by omega⟩ _ ?_).trans (congrArg _ ?_)
  · intro k; blk_point [iblk, V, idx t]
  · blk_ext [idx t, h0, h1]

set_option maxHeartbeats 4000000 in
/-- The values to be compressed, sixteen tokens to a row. -/
theorem final5 (c : Dev nD) : (dats m 0 c).arrAt 5 (cfgs 0).N = Cert.Reference5Ideal.Read.val_main_v28 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  have ht : t.val < 32 := lt_of_lt_of_eq t.isLt N_0
  blk_simp
  rw [after0_5]
  unfold outsAt0
  frame_out
  obtain_idx i : S512x128 := [16 * (y 0 : ℕ) + (y 1 : ℕ) / 128, (y 1 : ℕ) % 128] with hi
  refine Eq.trans (b := k0_pay7 (F := Ideal) (k0_pay4 (F := Ideal) (iblk m c 0 t) (iblk m c 1 t)) (View.ld (iblk m c 2 t) (Rect.unit ![0, 0, 640] ![1, 1024, 128] inb_S1x1024x3968_S1x1024x128_0_0_640)) i) ?_ (point5 m c t ht i y hi0 hi1)
  generalize k0_pay7 (F := Ideal) (k0_pay4 (F := Ideal) (iblk m c 0 t) (iblk m c 1 t)) (View.ld (iblk m c 2 t) (Rect.unit ![0, 0, 640] ![1, 1024, 128] inb_S1x1024x3968_S1x1024x128_0_0_640)) = Z
  canon_tiles x h
  all_goals (rw [read_fill _ _ _ _ _ (by decide)]; dsimp only; pointwise; blk_ext [hi0, hi1, h0, h1])

end Cert.Kernel5Ideal.Inproj

end
-- ==== Proof.ColValue.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Columns

open Cert.Kernel6Ideal Cert.Kernel6Ideal.Gen

section Pure
open Cert.Reference6Ideal.Read

set_option maxHeartbeats 4000000 in
/-- Which column of the weight a column of the reference's layout is; the padding columns are zero. -/
theorem ref_at (x : FVec Ideal S4x1024x3880 .f32) (a : Fin 4) (b : Fin 1024) (l : Fin 3968) :
    val_main_v16 (F := Ideal) x (ix3 a b l)
    = if h : l.val < 512 then x (ix3 a b ⟨l.val / 64 % 2 * 256 + l.val / 128 * 64 + l.val % 64, by omega⟩)
      else if h : l.val < 1304 then x (ix3 a b ⟨l.val, by omega⟩)
      else if h : l.val < 1320 then x (ix3 a b ⟨l.val + 2560, by omega⟩)
      else if h : l.val < 1408 then (0 : EReal)
      else x (ix3 a b ⟨l.val - 104, by omega⟩) := by
  pointwise [val_main_v0, val_main_v1, val_main_v2, val_main_v3, val_main_v4, val_main_v5, val_main_v6, val_main_v7, val_main_v8, val_main_v9, val_main_v10, val_main_v11, val_main_v12, val_main_v13, val_main_cst, val_main_v14, val_main_v15, val_main_v16]
  rcases (by omega : (0 ≤ l.val ∧ l.val < 512) ∨ (512 ≤ l.val ∧ l.val < 640) ∨ (640 ≤ l.val ∧ l.val < 768) ∨ (768 ≤ l.val ∧ l.val < 896) ∨ (896 ≤ l.val ∧ l.val < 1024) ∨ (1024 ≤ l.val ∧ l.val < 1152) ∨ (1152 ≤ l.val ∧ l.val < 1280) ∨ (1280 ≤ l.val ∧ l.val < 1304) ∨ (1304 ≤ l.val ∧ l.val < 1320) ∨ (1320 ≤ l.val ∧ l.val < 1408) ∨ (1408 ≤ l.val ∧ l.val < 2432) ∨ (2432 ≤ l.val ∧ l.val < 3968)) with h | h | h | h | h | h | h | h | h | h | h | h
  all_goals
    repeat first | refine Eq.trans (dif_pos (by omega)) ?_ | refine Eq.trans (dif_neg (by omega)) ?_
    repeat first | refine Eq.trans ?_ (dif_pos (by omega)).symm | refine Eq.trans ?_ (dif_neg (by omega)).symm
    first
      | rfl
      | exact congrArg x (congrArg (ix3 a b) (Fin.ext (by dsimp only <;> omega)))

end Pure

variable (m : (ℓ : Loc nD τ sig) → Buf (Elt Ideal) ℓ)

/-- Where each window's block stands at a grid point. -/
theorem idx : ∀ t : Fin cfg0.N, win0_0.index t = ![t.val / 4, t.val % 4, 0] ∧ win0_1.index t = ![t.val / 4, t.val % 4, 0] :=
  (by decide +kernel : ∀ t : Fin grid0.N, _)

set_option maxHeartbeats 4000000 in
/-- The columns of the input projection, laid out as the reference lays them out. -/
theorem final (c : Dev nD) : (dats m 0 c).arrAt 1 (cfgs 0).N
    = Cert.Reference6Ideal.Read.val_main_v16 (F := Ideal) (m ((c : Thread nD τ).loc main_arg0)) := by
  refine (dats m 0 c).arrAt_eq_of_covers 1 _ (by decide +kernel) fun t _ y => ?_
  have ht : t.val < 16 := lt_of_lt_of_eq t.isLt N_0
  blk_simp
  rw [after0_1]
  unfold outsAt0
  frame_out
  have hy1 : (y 1).val < 256 := (y 1).isLt
  have hy2 : (y 2).val < 3968 := (y 2).isLt
  refine Eq.trans (b := Cert.Reference6Ideal.Read.val_main_v16 (F := Ideal) (m ((c : Thread nD τ).loc main_arg0))
    (ix3 ⟨t.val / 4, by omega⟩ ⟨t.val % 4 * 256 + (y 1).val, by omega⟩ ⟨(y 2).val, hy2⟩)) ?_ (congrArg _ ?_)
  · rw [ref_at]
    canon_tiles x h using (View.cover_of_tiledBy _ ![1, 256, 8] (by sl_kernel_rfl) y)
    all_goals
      repeat' split
      all_goals first
        | (exfalso; dsimp only at *; omega)
        | (pointwise [k0_pay1, k0_pay2, k0_pay3, k0_pay4, k0_pay5, k0_pay6, k0_pay7, k0_pay8, k0_pay9, k0_pay10, k0_pay11, k0_pay12, k0_pay13, k0_pay14]; try blk_point [iblk, V, idx t, h0, h1, h2])
  · blk_ext [idx t]

end Cert.Kernel6Ideal.Columns

end
-- ==== Proof.OutValue.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Out

open Cert.Kernel4Ideal Cert.Kernel4Ideal.Gen

/-- The reference's column of the attention's output whose value arrives at a column: the heads of the two groups alternate. -/
abbrev place (k : Fin 512) : Fin 512 := ⟨k.val / 64 % 2 * 256 + k.val / 128 * 64 + k.val % 64, by omega⟩

/-- The same, as a permutation of the columns. -/
def heads : Equiv.Perm (Fin 512) where
  toFun := place
  invFun p := ⟨p.val / 64 % 4 * 128 + p.val / 256 * 64 + p.val % 64, by omega⟩
  left_inv k := by revert k; decide +kernel
  right_inv k := by revert k; decide +kernel

/-- A sum over the columns as they arrive is the sum over the reference's columns. -/
theorem sum_heads (f h : Fin 512 → EReal) (e : ∀ k, f k = h (place k)) : ∑ k, f k = ∑ k, h k := by
  rw [← Equiv.sum_comp heads h]
  exact Finset.sum_congr rfl fun k _ => e k

/-- A position read as a signed integer is itself. -/
theorem position_toNat : ∀ p : Fin 512, (BitVec.ofNat 32 p.val).toInt.toNat = p.val := by decide +kernel

/-- A gather along the second axis reads the operand at the position the table gives. -/
theorem gather_row {α : Type} (x : S4x512.Idx → α) (ix : IVec S512x1 32) (a : Fin 4) (k p : Fin 512)
    (hp : ix (ix2 k 0) = BitVec.ofNat 32 p.val) :
    Host.gather gather_S4x512_S512x1_S4x512_0_1_n_n_1_1_41 x ix (ix2 a k) = x (ix2 a p) := by
  have hi : (gather_S4x512_S512x1_S4x512_0_1_n_n_1_1_41).siIdx (ix2 a k) ⟨List.idxOf (1 : Fin 2) [1], by decide⟩ = ix2 k (0 : Fin 1) := by
    funext b
    apply Fin.ext
    match b with
    | ⟨0, _⟩ => rfl
    | ⟨1, _⟩ => rfl
  have ho : (gather_S4x512_S512x1_S4x512_0_1_n_n_1_1_41).operandBatchingDims = [] := rfl
  have hm : (gather_S4x512_S512x1_S4x512_0_1_n_n_1_1_41).startIndexMap = [1] := rfl
  have hc : (gather_S4x512_S512x1_S4x512_0_1_n_n_1_1_41).collapsedSliceDims = [1] := rfl
  unfold Host.gather
  congr 1
  funext b
  apply Fin.ext
  have hb : b ∉ (gather_S4x512_S512x1_S4x512_0_1_n_n_1_1_41).operandBatchingDims := by rw [ho]; exact List.not_mem_nil
  show (gather_S4x512_S512x1_S4x512_0_1_n_n_1_1_41).start (ix2 a k) ix b + (gather_S4x512_S512x1_S4x512_0_1_n_n_1_1_41).batchCoord (ix2 a k) b + (gather_S4x512_S512x1_S4x512_0_1_n_n_1_1_41).offCoord (ix2 a k) b = _
  rw [GatherDims.batchCoord_eq_zero _ _ _ hb]
  have hcases : b = (0 : Fin 2) ∨ b = (1 : Fin 2) := by
    match b with
    | ⟨0, _⟩ => exact .inl rfl
    | ⟨1, _⟩ => exact .inr rfl
  rcases hcases with rfl | rfl
  · unfold GatherDims.start GatherDims.offCoord
    rw [dif_neg (show (0 : Fin 2) ∉ (gather_S4x512_S512x1_S4x512_0_1_n_n_1_1_41).startIndexMap by rw [hm]; decide),
      dif_pos (show (0 : Fin 2) ∈ (gather_S4x512_S512x1_S4x512_0_1_n_n_1_1_41).sKept from (GatherDims.mem_sKept _ _).2 ⟨by rw [hc]; decide, by rw [ho]; exact List.not_mem_nil⟩)]
    show 0 + 0 + _ = a.val
    first | rw [Nat.zero_add, Nat.zero_add] | rw [Nat.zero_add]
    rfl
  · rw [GatherDims.offCoord_eq_zero _ _ _ (fun h => ((GatherDims.mem_sKept _ _).1 h).1 (by rw [hc]; exact List.mem_singleton.2 rfl))]
    unfold GatherDims.start
    rw [dif_pos (show (1 : Fin 2) ∈ (gather_S4x512_S512x1_S4x512_0_1_n_n_1_1_41).startIndexMap by rw [hm]; exact List.mem_singleton.2 rfl)]
    show min (ix ((gather_S4x512_S512x1_S4x512_0_1_n_n_1_1_41).siIdx (ix2 a k) ⟨List.idxOf (1 : Fin 2) [1], _⟩)).toInt.toNat (512 - 1) + 0 + 0 = p.val
    rw [hi, hp, position_toNat]
    have := p.isLt
    omega

/-- A gather along the second axis reads the operand at the position the table gives. -/
theorem gather_plane {α : Type} (x : S4x512x1024.Idx → α) (ix : IVec S512x1 32) (a : Fin 4) (l : Fin 1024) (k p : Fin 512)
    (hp : ix (ix2 k 0) = BitVec.ofNat 32 p.val) :
    Host.gather gather_S4x512x1024_S512x1_S4x512x1024_02_1_n_n_1_1_411024 x ix (ix3 a k l) = x (ix3 a p l) := by
  have hi : (gather_S4x512x1024_S512x1_S4x512x1024_02_1_n_n_1_1_411024).siIdx (ix3 a k l) ⟨List.idxOf (1 : Fin 3) [1], by decide⟩ = ix2 k (0 : Fin 1) := by
    funext b
    apply Fin.ext
    match b with
    | ⟨0, _⟩ => rfl
    | ⟨1, _⟩ => rfl
  have ho : (gather_S4x512x1024_S512x1_S4x512x1024_02_1_n_n_1_1_411024).operandBatchingDims = [] := rfl
  have hm : (gather_S4x512x1024_S512x1_S4x512x1024_02_1_n_n_1_1_411024).startIndexMap = [1] := rfl
  have hc : (gather_S4x512x1024_S512x1_S4x512x1024_02_1_n_n_1_1_411024).collapsedSliceDims = [1] := rfl
  unfold Host.gather
  congr 1
  funext b
  apply Fin.ext
  have hb : b ∉ (gather_S4x512x1024_S512x1_S4x512x1024_02_1_n_n_1_1_411024).operandBatchingDims := by rw [ho]; exact List.not_mem_nil
  show (gather_S4x512x1024_S512x1_S4x512x1024_02_1_n_n_1_1_411024).start (ix3 a k l) ix b + (gather_S4x512x1024_S512x1_S4x512x1024_02_1_n_n_1_1_411024).batchCoord (ix3 a k l) b + (gather_S4x512x1024_S512x1_S4x512x1024_02_1_n_n_1_1_411024).offCoord (ix3 a k l) b = _
  rw [GatherDims.batchCoord_eq_zero _ _ _ hb]
  have hcases : b = (0 : Fin 3) ∨ b = (1 : Fin 3) ∨ b = (2 : Fin 3) := by
    match b with
    | ⟨0, _⟩ => exact .inl rfl
    | ⟨1, _⟩ => exact .inr (.inl rfl)
    | ⟨2, _⟩ => exact .inr (.inr rfl)
  rcases hcases with rfl | rfl | rfl
  · unfold GatherDims.start GatherDims.offCoord
    rw [dif_neg (show (0 : Fin 3) ∉ (gather_S4x512x1024_S512x1_S4x512x1024_02_1_n_n_1_1_411024).startIndexMap by rw [hm]; decide),
      dif_pos (show (0 : Fin 3) ∈ (gather_S4x512x1024_S512x1_S4x512x1024_02_1_n_n_1_1_411024).sKept from (GatherDims.mem_sKept _ _).2 ⟨by rw [hc]; decide, by rw [ho]; exact List.not_mem_nil⟩)]
    show 0 + 0 + _ = a.val
    first | rw [Nat.zero_add, Nat.zero_add] | rw [Nat.zero_add]
    rfl
  · rw [GatherDims.offCoord_eq_zero _ _ _ (fun h => ((GatherDims.mem_sKept _ _).1 h).1 (by rw [hc]; exact List.mem_singleton.2 rfl))]
    unfold GatherDims.start
    rw [dif_pos (show (1 : Fin 3) ∈ (gather_S4x512x1024_S512x1_S4x512x1024_02_1_n_n_1_1_411024).startIndexMap by rw [hm]; exact List.mem_singleton.2 rfl)]
    show min (ix ((gather_S4x512x1024_S512x1_S4x512x1024_02_1_n_n_1_1_411024).siIdx (ix3 a k l) ⟨List.idxOf (1 : Fin 3) [1], _⟩)).toInt.toNat (512 - 1) + 0 + 0 = p.val
    rw [hi, hp, position_toNat]
    have := p.isLt
    omega
  · unfold GatherDims.start GatherDims.offCoord
    rw [dif_neg (show (2 : Fin 3) ∉ (gather_S4x512x1024_S512x1_S4x512x1024_02_1_n_n_1_1_411024).startIndexMap by rw [hm]; decide),
      dif_pos (show (2 : Fin 3) ∈ (gather_S4x512x1024_S512x1_S4x512x1024_02_1_n_n_1_1_411024).sKept from (GatherDims.mem_sKept _ _).2 ⟨by rw [hc]; decide, by rw [ho]; exact List.not_mem_nil⟩)]
    show 0 + 0 + _ = l.val
    first | rw [Nat.zero_add, Nat.zero_add] | rw [Nat.zero_add]
    rfl

/-- A conjunction over the last axis of entries that all hold holds. -/
theorem all_ones (x : IVec S512x1 1) (h : ∀ i, x i = 1#1) (j : S512.Idx) :
    Host.reduce IntOp.andi x (constantI S_ 1 1#1) reducesTo_S512x1_S512_d1 h_S_ j = 1#1 := by
  unfold Host.reduce
  have key : ∀ (l : List (Fin S512x1.numel)) (b : BitVec 1), b = 1#1 →
      l.foldl (fun r n => IntOp.andi r (x (S512x1.rowMajor.symm n))) b = 1#1 := by
    intro l
    induction l with
    | nil => intro b hb; exact hb
    | cons a l ih =>
      intro b hb
      rw [List.foldl_cons]
      refine ih _ ?_
      rw [hb, h]
      decide
  exact key _ _ rfl

/-- The positions the gather is given: a negative entry of the table would count from the end. -/
abbrev positions0 : IVec S512x1 32 :=
  broadcastInDim S512x1 ![0] bcast_S512_S512x1_0
    (select (cmpi .slt (fun i => lit0 (S512.rowMajor i)) (broadcastInDim S512 ![] bcast_S_S512 (constantI S_ 32 0#32)))
      (addi (fun i => lit0 (S512.rowMajor i)) (broadcastInDim S512 ![] bcast_S_S512 (constantI S_ 32 512#32)))
      (fun i => lit0 (S512.rowMajor i)))

/-- Which of the positions lie within the 512 columns. -/
abbrev within0 : IVec S512x1 1 :=
  andi (cmpi .sge positions0 (broadcastInDim S512x1 ![] bcast_S_S512x1 (constantI S_ 32 0#32)))
    (cmpi .sle positions0 (broadcastInDim S512x1 ![0, 1] bcast_S1x1_S512x1_0_1 (broadcastInDim S1x1 ![1] bcast_S1_S1x1_1 (constantI S1 32 511#32))))

/-- The positions are the reference's columns. -/
theorem positions0_at : ∀ k : Fin 512, positions0 (ix2 k 0) = BitVec.ofNat 32 (place k).val := by decide +kernel

/-- All of them lie within the columns. -/
theorem within0_at : ∀ k : Fin 512, within0 (ix2 k 0) = 1#1 := by decide +kernel

/-- All of them lie within the columns, at any index. -/
theorem within0_all (i : S512x1.Idx) : within0 i = 1#1 := by
  idx_vars i
  rw [show i1 = 0 from Subsingleton.elim _ _]
  exact within0_at i0

/-- The positions the gather is given: a negative entry of the table would count from the end. -/
abbrev positions1 : IVec S512x1 32 :=
  broadcastInDim S512x1 ![0] bcast_S512_S512x1_0
    (select (cmpi .slt (fun i => lit1 (S512.rowMajor i)) (broadcastInDim S512 ![] bcast_S_S512 (constantI S_ 32 0#32)))
      (addi (fun i => lit1 (S512.rowMajor i)) (broadcastInDim S512 ![] bcast_S_S512 (constantI S_ 32 512#32)))
      (fun i => lit1 (S512.rowMajor i)))

/-- Which of the positions lie within the 512 columns. -/
abbrev within1 : IVec S512x1 1 :=
  andi (cmpi .sge positions1 (broadcastInDim S512x1 ![] bcast_S_S512x1 (constantI S_ 32 0#32)))
    (cmpi .sle positions1 (broadcastInDim S512x1 ![0, 1] bcast_S1x1_S512x1_0_1 (broadcastInDim S1x1 ![1] bcast_S1_S1x1_1 (constantI S1 32 511#32))))

/-- The positions are the reference's columns. -/
theorem positions1_at : ∀ k : Fin 512, positions1 (ix2 k 0) = BitVec.ofNat 32 (place k).val := by decide +kernel

/-- All of them lie within the columns. -/
theorem within1_at : ∀ k : Fin 512, within1 (ix2 k 0) = 1#1 := by decide +kernel

/-- All of them lie within the columns, at any index. -/
theorem within1_all (i : S512x1.Idx) : within1 i = 1#1 := by
  idx_vars i
  rw [show i1 = 0 from Subsingleton.elim _ _]
  exact within1_at i0

/-- The gain of the norm as the kernel is given it. -/
abbrev gains (g : FVec Ideal S4x512 .f32) : FVec Ideal S4x1x512 .f32 :=
  broadcastInDim S4x1x512 ![0, 2] bcast_S4x512_S4x1x512_0_2
    (select (broadcastInDim S4x512 ![1] bcast_S512_S4x512_1
        (Host.reduce IntOp.andi within0 (constantI S_ 1 1#1) reducesTo_S512x1_S512_d1 h_S_))
      (Host.gather gather_S4x512_S512x1_S4x512_0_1_n_n_1_1_41 g positions0)
      (broadcastInDim S4x512 ![] bcast_S_S4x512 (constant S_ .f32 0x7FC00000#32)))

/-- The gain of the norm, column by column. -/
theorem gains_at (g : FVec Ideal S4x512 .f32) (a : Fin 4) (k : Fin 512) : gains g (ix3 a 0 k) = g (ix2 a (place k)) := by
  have hp := positions0_at k
  unfold gains
  rw [funext (all_ones _ within0_all)]
  generalize positions0 = ix at hp ⊢
  pointwise []
  rw [gather_row g ix a k (place k) hp]

/-- The attention's rows of the weight as the kernel is given them. -/
abbrev rows (w : FVec Ideal S4x1536x1024 .f32) : FVec Ideal S4x512x1024 .bf16 :=
  truncf .bf16 (select (broadcastInDim S4x512x1024 ![1] bcast_S512_S4x512x1024_1
        (Host.reduce IntOp.andi within1 (constantI S_ 1 1#1) reducesTo_S512x1_S512_d1 h_S_))
      (Host.gather gather_S4x512x1024_S512x1_S4x512x1024_02_1_n_n_1_1_411024
        (extractStridedSlice S4x512x1024 ![0, 0, 0] w slices_S4x1536x1024_S4x512x1024_0_0_0) positions1)
      (broadcastInDim S4x512x1024 ![] bcast_S_S4x512x1024 (constant S_ .f32 0x7FC00000#32))) bitsLt_bf16_f32

/-- The attention's rows of the weight, entry by entry. -/
theorem rows_at (w : FVec Ideal S4x1536x1024 .f32) (a : Fin 4) (k : Fin 512) (n : Fin 1024) :
    rows w (ix3 a k n) = w (ix3 a ⟨(place k).val, by omega⟩ n) := by
  have hp := positions1_at k
  unfold rows
  rw [funext (all_ones _ within1_all)]
  generalize positions1 = ix at hp ⊢
  pointwise []
  rw [gather_plane _ ix a n k (place k) hp]
  pointwise []

section Pure
open Cert.Reference4Ideal.Read
/-- One stored value of the kernel is the reference's at the row the block reads, whatever row that is. -/
theorem core (O : FVec Ideal S1024x512 .f32) (G : FVec Ideal S1x1x512 .f32) (X : FVec Ideal S1024x1024 .f32) (Wa : FVec Ideal S1x512x1024 .bf16)
    (Os : FVec Ideal S1024x1024 .bf16) (Ws : FVec Ideal S1x1024x1024 .bf16)
    (x : FVec Ideal S8x2048x1024 .f32) (o : FVec Ideal S8x2048x512 .f32) (s : FVec Ideal S8x2048x1024 .f32) (g : FVec Ideal S4x512 .f32)
    (w : FVec Ideal S4x1536x1024 .f32) (r : Fin 1024) (a : Fin 8) (b : Fin 2048) (l : Fin 1024)
    (hx : ∀ k : Fin 1024, X (ix2 r k) = x (ix3 a b k)) (ho : ∀ k : Fin 512, O (ix2 r k) = o (ix3 a b k))
    (hs : ∀ k : Fin 1024, Os (ix2 r k) = s (ix3 a b k)) (hg : ∀ k : Fin 512, G (ix3 0 0 k) = g (ix2 0 (place k)))
    (hwa : ∀ (k : Fin 512) (n : Fin 1024), Wa (ix3 0 k n) = w (ix3 0 ⟨(place k).val, by omega⟩ n))
    (hws : ∀ k n : Fin 1024, Ws (ix3 0 k n) = w (ix3 0 ⟨512 + k.val, by omega⟩ n)) :
    k0_pay1 (F := Ideal) O G X Wa Os Ws (ix2 r l) = val_main_v22 (F := Ideal) x o s g w (ix3 a b l) := by
  pointwise [k0_pay1, val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19, val_main_v20, val_main_v21, val_main_v22]
  simp only [hx, hg, ho, hs, hwa, hws]
  have sq : (∑ k : Fin 512, o (ix3 a b (heads.symm k)) * o (ix3 a b (heads.symm k))) = ∑ k : Fin 512, o (ix3 a b k) * o (ix3 a b k) :=
    Equiv.sum_comp heads.symm fun k => o (ix3 a b k) * o (ix3 a b k)
  rw [add_assoc]
  refine congrArg₂ (· + ·) rfl (congrArg₂ (· + ·) (sum_heads _ _ fun k => ?_) rfl)
  refine Eq.trans (congrArg (fun q => o (ix3 a b q) * _ * _ * _) (heads.left_inv k).symm) ?_
  refine congrArg (fun q => o (ix3 a b (heads.symm (heads k))) * Ideal.rsqrt (Ideal.div q _ + _) * _ * _) sq.symm
end Pure

variable (m : (ℓ : Loc nD τ sig) → Buf (Elt Ideal) ℓ)

/-- What the kernel finds as the gain. -/
theorem V_gains (c : Dev nD) : V m c main_v5 = gains (m ((c : Thread nD τ).loc main_arg3)) := by
  unfold V
  simp only [hostOps0, hostOps0_1, hostOps0_2, hostOps0_3, hostOps0_4, List.flatten_cons, List.flatten_nil, List.append_nil, List.cons_append, List.nil_append]
  after_results_simp <;> rfl

/-- What the kernel finds as the attention's rows of the weight. -/
theorem V_rows (c : Dev nD) : V m c main_v8 = rows (m ((c : Thread nD τ).loc main_arg4)) := by
  unfold V
  simp only [hostOps0, hostOps0_1, hostOps0_2, hostOps0_3, hostOps0_4, List.flatten_cons, List.flatten_nil, List.append_nil, List.cons_append, List.nil_append]
  after_results_simp <;> rfl

/-- What the kernel finds as the residual stream. -/
theorem V_stream (c : Dev nD) : V m c main_v0 = shapeCast S16384x1024 (m ((c : Thread nD τ).loc main_arg0)) shapeCasts_S8x2048x1024_S16384x1024 := by
  unfold V
  simp only [hostOps0, hostOps0_1, hostOps0_2, hostOps0_3, hostOps0_4, List.flatten_cons, List.flatten_nil, List.append_nil, List.cons_append, List.nil_append]
  after_results_simp <;> rfl

/-- What the kernel finds as the attention's output. -/
theorem V_heads (c : Dev nD) : V m c main_v1 = shapeCast S16384x512 (m ((c : Thread nD τ).loc main_arg1)) shapeCasts_S8x2048x512_S16384x512 := by
  unfold V
  simp only [hostOps0, hostOps0_1, hostOps0_2, hostOps0_3, hostOps0_4, List.flatten_cons, List.flatten_nil, List.append_nil, List.cons_append, List.nil_append]
  after_results_simp <;> rfl

/-- What the kernel finds as the state-space half's output. -/
theorem V_states (c : Dev nD) : V m c main_v3
    = (truncf (F := Ideal) .bf16 (shapeCast S16384x1024 (m ((c : Thread nD τ).loc main_arg2)) shapeCasts_S8x2048x1024_S16384x1024 : FVec Ideal S16384x1024 .f32) bitsLt_bf16_f32 : FVec Ideal S16384x1024 .bf16) := by
  unfold V
  simp only [hostOps0, hostOps0_1, hostOps0_2, hostOps0_3, hostOps0_4, List.flatten_cons, List.flatten_nil, List.append_nil, List.cons_append, List.nil_append]
  after_results_simp <;> rfl

/-- What the kernel finds as the state-space rows of the weight. -/
theorem V_lower (c : Dev nD) : V m c main_v10
    = (truncf (F := Ideal) .bf16 (extractStridedSlice S4x1024x1024 ![0, 512, 0] (m ((c : Thread nD τ).loc main_arg4)) slices_S4x1536x1024_S4x1024x1024_0_512_0 : FVec Ideal S4x1024x1024 .f32) bitsLt_bf16_f32 : FVec Ideal S4x1024x1024 .bf16) := by
  unfold V
  simp only [hostOps0, hostOps0_1, hostOps0_2, hostOps0_3, hostOps0_4, List.flatten_cons, List.flatten_nil, List.append_nil, List.cons_append, List.nil_append]
  after_results_simp <;> rfl

/-- The output projection and the residual, as the reference states them, over the argument arrays. -/
abbrev target (c : Dev nD) : FVec Ideal S16384x1024 .f32 :=
  Cert.Reference4Ideal.Read.val_main_v23 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Where each window's block stands at a grid point. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0, 0] ∧ win0_5.index t = ![0, 0, 0] ∧ win0_6.index t = ![t.val, 0] :=
  (by decide +kernel : ∀ t : Fin grid0.N, _)

/-- The gain's block holds the gain's first row, in the order of the arriving heads. -/
theorem gain_block (c : Dev nD) (t : Fin cfg0.N) (k : Fin 512) :
    iblk m c 3 t (ix3 0 0 k) = m ((c : Thread nD τ).loc main_arg3) (ix2 0 (place k)) := by
  refine Eq.trans ?_ (gains_at _ 0 k)
  rw [← V_gains m c]
  blk_point [iblk, idx t]

/-- The block of the attention's rows holds them in the order of the arriving heads. -/
theorem rows_block (c : Dev nD) (t : Fin cfg0.N) (k : Fin 512) (n : Fin 1024) :
    iblk m c 4 t (ix3 0 k n) = m ((c : Thread nD τ).loc main_arg4) (ix3 0 ⟨(place k).val, by omega⟩ n) := by
  refine Eq.trans ?_ (rows_at _ 0 k n)
  rw [← V_rows m c]
  blk_point [iblk, idx t]

/-- Batch and position laid out as one row: a row's entry is the entry of its batch and position. -/
theorem stream_at (x : FVec Ideal S8x2048x1024 .f32) (q : Fin 16384) (k : Fin 1024) :
    shapeCast S16384x1024 x shapeCasts_S8x2048x1024_S16384x1024 (ix2 q k) = x (ix3 ⟨q.val / 2048, by omega⟩ ⟨q.val % 2048, by omega⟩ k) := by
  pointwise []

/-- The same at the narrower width: batch and position laid out as one row: a row's entry is the entry of its batch and position. -/
theorem heads_at (x : FVec Ideal S8x2048x512 .f32) (q : Fin 16384) (k : Fin 512) :
    shapeCast S16384x512 x shapeCasts_S8x2048x512_S16384x512 (ix2 q k) = x (ix3 ⟨q.val / 2048, by omega⟩ ⟨q.val % 2048, by omega⟩ k) := by
  pointwise []

/-- The block of the residual stream is its rows. -/
theorem stream_block (c : Dev nD) (t : Fin cfg0.N) (ht : t.val < 16) (r : Fin 1024) (k : Fin 1024) :
    iblk m c 0 t (ix2 r k) = m ((c : Thread nD τ).loc main_arg0) (ix3 ⟨(t.val * 1024 + r.val) / 2048, by omega⟩ ⟨(t.val * 1024 + r.val) % 2048, by omega⟩ k) := by
  show V m c main_v0 _ = _
  rw [V_stream, (by blk_ext [idx t] : ((cfg0.win 0).blk t).view.emb (ix2 r k) = ix2 ⟨t.val * 1024 + r.val, by omega⟩ k)]
  exact stream_at _ ⟨t.val * 1024 + r.val, by omega⟩ k

/-- The block of the attention half's output is its rows. -/
theorem heads_block (c : Dev nD) (t : Fin cfg0.N) (ht : t.val < 16) (r : Fin 1024) (k : Fin 512) :
    iblk m c 1 t (ix2 r k) = m ((c : Thread nD τ).loc main_arg1) (ix3 ⟨(t.val * 1024 + r.val) / 2048, by omega⟩ ⟨(t.val * 1024 + r.val) % 2048, by omega⟩ k) := by
  show V m c main_v1 _ = _
  rw [V_heads, (by blk_ext [idx t] : ((cfg0.win 1).blk t).view.emb (ix2 r k) = ix2 ⟨t.val * 1024 + r.val, by omega⟩ k)]
  exact heads_at _ ⟨t.val * 1024 + r.val, by omega⟩ k

/-- The block of the state-space half's output is its rows. -/
theorem states_block (c : Dev nD) (t : Fin cfg0.N) (ht : t.val < 16) (r : Fin 1024) (k : Fin 1024) :
    iblk m c 2 t (ix2 r k) = m ((c : Thread nD τ).loc main_arg2) (ix3 ⟨(t.val * 1024 + r.val) / 2048, by omega⟩ ⟨(t.val * 1024 + r.val) % 2048, by omega⟩ k) := by
  show V m c main_v3 _ = _
  rw [V_states, (by blk_ext [idx t] : ((cfg0.win 2).blk t).view.emb (ix2 r k) = ix2 ⟨t.val * 1024 + r.val, by omega⟩ k)]
  exact stream_at _ ⟨t.val * 1024 + r.val, by omega⟩ k

/-- The block of the state-space rows of the weight is those rows. -/
theorem lower_block (c : Dev nD) (t : Fin cfg0.N) (k n : Fin 1024) :
    iblk m c 5 t (ix3 0 k n) = m ((c : Thread nD τ).loc main_arg4) (ix3 0 ⟨512 + k.val, by omega⟩ n) := by
  show V m c main_v10 _ = _
  rw [V_lower, (by blk_ext [idx t] : ((cfg0.win 5).blk t).view.emb (ix3 0 k n) = ix3 0 k n)]
  pointwise []

/-- What a grid point stores at an index of its block is the reference's value where the block puts that index. -/
theorem point (c : Dev nD) (t : Fin cfg0.N) (y : S1024x1024.Idx) :
    k0_pay1 (F := Ideal) (iblk m c 1 t) (iblk m c 3 t) (iblk m c 0 t) (iblk m c 4 t) (iblk m c 2 t) (iblk m c 5 t) y
    = target m c (((cfg0.win 6).blk t).view.emb y) := by
  have ht : t.val < 16 := lt_of_lt_of_eq t.isLt N_0
  idx_vars y
  rw [target, Cert.Reference4Ideal.Read.val_main_v23_apply]
  refine (core _ _ _ _ _ _ _ _ _ _ _ y0 ⟨(t.val * 1024 + y0.val) / 2048, by omega⟩ ⟨(t.val * 1024 + y0.val) % 2048, by omega⟩ y1
    ?_ ?_ ?_ ?_ ?_ ?_).trans (congrArg _ ?_)
  · intro k; exact stream_block m c t ht y0 k
  · intro k; exact heads_block m c t ht y0 k
  · intro k; exact states_block m c t ht y0 k
  · intro k; exact gain_block m c t k
  · intro k n; exact rows_block m c t k n
  · intro k n; exact lower_block m c t k n
  · blk_ext [idx t]

/-- The result array after the run is the reference's. -/
theorem final (c : Dev nD) : (dats m 0 c).arrAt 6 (cfgs 0).N = target m c := by
  refine (dats m 0 c).arrAt_eq_of_covers 6 _ (by decide +kernel) fun t _ y => ?_
  blk_simp
  rw [after0_6]
  frame_out
  exact point m c t y

end Cert.Kernel4Ideal.Out

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init
public import proofs.«01_k».proof.Proof.PleValue
public import proofs.«01_k».proof.Proof.FfnValue
public import proofs.«01_k».proof.Proof.MixerKeep
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.InValue
public import proofs.«01_k».proof.Proof.ColValue
public import proofs.«01_k».proof.Proof.OutValue

@[expose] public section

noncomputable section

/-! The assembled claims: the frames of the programs, and the values of those calls that have a value claim. -/

namespace Cert.Proof

open Idealize.ShloMosaic Idealize.ShloMosaic.TcCoe Idealize.SL.Sem

/-- The frame of the mixer's reference. -/
theorem frame_mixer : Cert.quiescent_ReferenceIdeal (hReferenceIdeal := Cert.ReferenceIdeal.Gen.facts) := fun m ρ _ =>
  (θ_run Cert.ReferenceIdeal.defs _ _).mono (fun r h => ⟨fun c => ⟨h.1 c _ (by decide +kernel), h.1 c _ (by decide +kernel), h.1 c _ (by decide +kernel), h.1 c _ (by decide +kernel), h.1 c _ (by decide +kernel), h.1 c _ (by decide +kernel), h.1 c _ (by decide +kernel), h.1 c _ (by decide +kernel), h.1 c _ (by decide +kernel), h.1 c _ (by decide +kernel)⟩, h.2⟩)
    (Cert.ReferenceIdeal.Keep.frame (F := Ideal) m ρ)

/-- The reference's frame: its run's conjuncts about the arguments; it declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's frame: its run's conjuncts about the arguments; it declares no semaphore. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The feed-forward half-step: kernel and reference end with the same array. -/
theorem algebraic2 : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.Ffn.target m c,
    (θ_run _ _ _).mono (fun _ h c => ⟨(h c).1.trans (Cert.Kernel2Ideal.Ffn.final m c), (h c).2⟩) (Cert.Kernel2Ideal.Value.run_blocks (F := Ideal) m ρ),
    (θ_run _ _ _).mono (fun _ h c => ⟨(h c).1.trans ?_, (h c).2⟩) (Cert.Reference2Ideal.Value.run (F := Ideal) m' ρ')⟩
  obtain ⟨h0, h1, h2, h3⟩ := hagree c
  rw [Cert.Reference2Ideal.Read.val_main_v28_eq]
  show _ = Cert.Reference2Ideal.Read.val_main_v28 (F := Ideal) _ _ _ _
  congr 1

/-- The gated embedding with the closing norm: kernel and reference end with the same array. -/
theorem algebraic3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Kernel3Ideal.Ple.target m c,
    (θ_run _ _ _).mono (fun _ h c => ⟨(h c).1.trans (Cert.Kernel3Ideal.Ple.final m c), (h c).2⟩) (Cert.Kernel3Ideal.Value.run_blocks (F := Ideal) m ρ),
    (θ_run _ _ _).mono (fun _ h c => ⟨(h c).1.trans ?_, (h c).2⟩) (Cert.Reference3Ideal.Value.run (F := Ideal) m' ρ')⟩
  obtain ⟨h0, h1, h2, h3, h4, h5⟩ := hagree c
  rw [Cert.Reference3Ideal.Read.val_main_v44_eq]
  show _ = Cert.Reference3Ideal.Read.val_main_v44 (F := Ideal) _ _ _ _ _ _
  congr 1

/-- The output projection with the residual: kernel and reference end with the same array. -/
theorem algebraic4 : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Reference4Ideal.Read.val_main_v23 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)),
    (θ_run _ _ _).mono (fun _ h c => ?_) (Cert.Kernel4Ideal.Value.run_blocks (F := Ideal) m ρ),
    (θ_run _ _ _).mono (fun _ h c => ?_) (Cert.Reference4Ideal.Value.run (F := Ideal) m' ρ')⟩
  · obtain ⟨r0, k⟩ := h c
    exact ⟨r0.trans (Cert.Kernel4Ideal.Out.final m c), k⟩
  · obtain ⟨r0, k⟩ := h c
    obtain ⟨h0, h1, h2, h3, h4⟩ := hagree c
    refine ⟨r0.trans ?_, k⟩
    · rw [Cert.Reference4Ideal.Read.val_main_v23_eq]
      show Cert.Reference4Ideal.Read.val_main_v23 (F := Ideal) _ _ _ _ _ = _
      congr 1

/-- The combined input projection: kernel and reference end with the same seven arrays. -/
theorem algebraic5 : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => Cert.Reference5Ideal.Read.val_main_v26 (F := Ideal) (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)), fun c => Cert.Reference5Ideal.Read.val_main_v27 (F := Ideal) (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)), fun c => Cert.Reference5Ideal.Read.val_main_v28 (F := Ideal) (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)), fun c => Cert.Reference5Ideal.Read.val_main_v30 (F := Ideal) (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)), fun c => Cert.Reference5Ideal.Read.val_main_v31 (F := Ideal) (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)), fun c => Cert.Reference5Ideal.Read.val_main_v32 (F := Ideal) (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)), fun c => Cert.Reference5Ideal.Read.val_main_v33 (F := Ideal) (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)),
    (θ_run _ _ _).mono (fun _ h c => ?_) (Cert.Kernel5Ideal.Value.run_blocks (F := Ideal) m ρ),
    (θ_run _ _ _).mono (fun _ h c => ?_) (Cert.Reference5Ideal.Value.run (F := Ideal) m' ρ')⟩
  · obtain ⟨r0, r1, r2, r3, r4, r5, r6, k⟩ := h c
    exact ⟨r0.trans (Cert.Kernel5Ideal.Inproj.final3 m c), r1.trans (Cert.Kernel5Ideal.Inproj.final4 m c), r2.trans (Cert.Kernel5Ideal.Inproj.final5 m c), r3.trans (Cert.Kernel5Ideal.Inproj.final6 m c), r4.trans (Cert.Kernel5Ideal.Inproj.final7 m c), r5.trans (Cert.Kernel5Ideal.Inproj.final8 m c), r6.trans (Cert.Kernel5Ideal.Inproj.final9 m c), k⟩
  · obtain ⟨r0, r1, r2, r3, r4, r5, r6, k⟩ := h c
    obtain ⟨h0, h1, h2⟩ := hagree c
    refine ⟨r0.trans ?_, r1.trans ?_, r2.trans ?_, r3.trans ?_, r4.trans ?_, r5.trans ?_, r6.trans ?_, k⟩
    · rw [Cert.Reference5Ideal.Read.val_main_v26_eq]
      show Cert.Reference5Ideal.Read.val_main_v26 (F := Ideal) _ _ _ = _
      congr 1
    · rw [Cert.Reference5Ideal.Read.val_main_v27_eq]
      show Cert.Reference5Ideal.Read.val_main_v27 (F := Ideal) _ _ _ = _
      congr 1
    · rw [Cert.Reference5Ideal.Read.val_main_v28_eq]
      show Cert.Reference5Ideal.Read.val_main_v28 (F := Ideal) _ _ _ = _
      congr 1
    · rw [Cert.Reference5Ideal.Read.val_main_v30_eq]
      show Cert.Reference5Ideal.Read.val_main_v30 (F := Ideal) _ _ _ = _
      congr 1
    · rw [Cert.Reference5Ideal.Read.val_main_v31_eq]
      show Cert.Reference5Ideal.Read.val_main_v31 (F := Ideal) _ _ _ = _
      congr 1
    · rw [Cert.Reference5Ideal.Read.val_main_v32_eq]
      show Cert.Reference5Ideal.Read.val_main_v32 (F := Ideal) _ _ _ = _
      congr 1
    · rw [Cert.Reference5Ideal.Read.val_main_v33_eq]
      show Cert.Reference5Ideal.Read.val_main_v33 (F := Ideal) _ _ _ = _
      congr 1

/-- The layout of the input projection's columns: kernel and reference end with the same array. -/
theorem algebraic6 : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => Cert.Reference6Ideal.Read.val_main_v16 (F := Ideal) (m ((c : Thread Cert.Kernel6Ideal.nD Cert.Kernel6Ideal.τ).loc Cert.Kernel6Ideal.main_arg0)),
    (θ_run _ _ _).mono (fun _ h c => ?_) (Cert.Kernel6Ideal.Value.run_blocks (F := Ideal) m ρ),
    (θ_run _ _ _).mono (fun _ h c => ?_) (Cert.Reference6Ideal.Value.run (F := Ideal) m' ρ')⟩
  · obtain ⟨r0, k⟩ := h c
    exact ⟨r0.trans (Cert.Kernel6Ideal.Columns.final m c), k⟩
  · obtain ⟨r0, k⟩ := h c
    obtain h0 := hagree c
    refine ⟨r0.trans ?_, k⟩
    · rw [Cert.Reference6Ideal.Read.val_main_v16_eq]
      show Cert.Reference6Ideal.Read.val_main_v16 (F := Ideal) _ = _
      congr 1

/-- The reference's frame: its run's conjuncts about the arguments; it declares no semaphore. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference's frame: its run's conjuncts about the arguments; it declares no semaphore. -/
theorem frame_reference5 : Cert.quiescent_Reference5Ideal (hReference5Ideal := Cert.Reference5Ideal.Gen.facts) := fun m ρ _ =>
  (θ_run Cert.Reference5Ideal.defs _ _).mono (fun r h => ⟨fun c => (h c).2.2.2.2.2.2.2, sem_eq_zero_of_no_sems (by decide) r.2⟩)
    (Cert.Reference5Ideal.Value.run (F := Ideal) m ρ)

/-- The reference's frame: its run's conjuncts about the arguments; it declares no semaphore. -/
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  fun m ρ _ => Cert.Kernel.Gen.frame m ρ,
  fun m ρ _ => Cert.KernelIdeal.Gen.frame m ρ,
  frame_mixer,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  ⟨IdealRules.named_const.statement Cert.KernelIdeal.κ "log2e" .f32 0x3FB8AA3B#32 _ rfl,
    IdealRules.named_const.statement Cert.KernelIdeal.κ "mask" .f32 0xF149F2CA#32 _ rfl⟩,
  trivial,
  algebraic2,
  trivial,
  algebraic3,
  trivial,
  algebraic4,
  trivial,
  algebraic5,
  trivial,
  algebraic6⟩

end Cert.Proof

end
